-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjIdeal_finite_scan [hPre_finite_scan : Cert.Pre_finite_scan.Facts] (m : (ℓ : Loc Cert.OutProjIdeal.nD Cert.OutProjIdeal.τ Cert.OutProjIdeal.sig) → Buf (Elt Ideal) ℓ) : Prop :=
  ∀ c : Dev Cert.OutProjIdeal.nD,
    (Cert.Pre_finite_scan.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5)) (m ((c.tc : Thread Cert.OutProjIdeal.nD Cert.OutProjIdeal.τ).loc Cert.OutProjIdeal.main_arg6)) (m ((c.tc : Thread Cert.OutProjIdeal.nD Cert.OutProjIdeal.τ).loc Cert.OutProjIdeal.main_arg7)) (m ((c.tc : Thread Cert.OutProjIdeal.nD Cert.OutProjIdeal.τ).loc Cert.OutProjIdeal.main_arg8)) (m ((c.tc : Thread Cert.OutProjIdeal.nD Cert.OutProjIdeal.τ).loc Cert.OutProjIdeal.main_arg9)) (m ((c.tc : Thread Cert.OutProjIdeal.nD Cert.OutProjIdeal.τ).loc Cert.OutProjIdeal.main_arg10)) (m ((c.tc : Thread Cert.OutProjIdeal.nD Cert.OutProjIdeal.τ).loc Cert.OutProjIdeal.main_arg11)) (m ((c.tc : Thread Cert.OutProjIdeal.nD Cert.OutProjIdeal.τ).loc Cert.OutProjIdeal.main_arg12)) (m ((c.tc : Thread Cert.OutProjIdeal.nD Cert.OutProjIdeal.τ).loc Cert.OutProjIdeal.main_arg13))).1 = (fun _ => 1#1)
    ∧ (Cert.Pre_finite_scan.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5)) (m ((c.tc : Thread Cert.OutProjIdeal.nD Cert.OutProjIdeal.τ).loc Cert.OutProjIdeal.main_arg6)) (m ((c.tc : Thread Cert.OutProjIdeal.nD Cert.OutProjIdeal.τ).loc Cert.OutProjIdeal.main_arg7)) (m ((c.tc : Thread Cert.OutProjIdeal.nD Cert.OutProjIdeal.τ).loc Cert.OutProjIdeal.main_arg8)) (m ((c.tc : Thread Cert.OutProjIdeal.nD Cert.OutProjIdeal.τ).loc Cert.OutProjIdeal.main_arg9)) (m ((c.tc : Thread Cert.OutProjIdeal.nD Cert.OutProjIdeal.τ).loc Cert.OutProjIdeal.main_arg10)) (m ((c.tc : Thread Cert.OutProjIdeal.nD Cert.OutProjIdeal.τ).loc Cert.OutProjIdeal.main_arg11)) (m ((c.tc : Thread Cert.OutProjIdeal.nD Cert.OutProjIdeal.τ).loc Cert.OutProjIdeal.main_arg12)) (m ((c.tc : Thread Cert.OutProjIdeal.nD Cert.OutProjIdeal.τ).loc Cert.OutProjIdeal.main_arg13))).2 = (fun _ => 1#1)

def Pre_OutProjRefIdeal (m : (ℓ : Loc Cert.OutProjRefIdeal.nD Cert.OutProjRefIdeal.τ Cert.OutProjRefIdeal.sig) → Buf (Elt Ideal) ℓ) : Prop :=
  True

def Pre_OutProjRefIdeal_finite_scan [hPre_finite_scan : Cert.Pre_finite_scan.Facts] (m : (ℓ : Loc Cert.OutProjRefIdeal.nD Cert.OutProjRefIdeal.τ Cert.OutProjRefIdeal.sig) → Buf (Elt Ideal) ℓ) : Prop :=
  ∀ c : Dev Cert.OutProjRefIdeal.nD,
    (Cert.Pre_finite_scan.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5)) (m ((c.tc : Thread Cert.OutProjRefIdeal.nD Cert.OutProjRefIdeal.τ).loc Cert.OutProjRefIdeal.main_arg6)) (m ((c.tc : Thread Cert.OutProjRefIdeal.nD Cert.OutProjRefIdeal.τ).loc Cert.OutProjRefIdeal.main_arg7)) (m ((c.tc : Thread Cert.OutProjRefIdeal.nD Cert.OutProjRefIdeal.τ).loc Cert.OutProjRefIdeal.main_arg8)) (m ((c.tc : Thread Cert.OutProjRefIdeal.nD Cert.OutProjRefIdeal.τ).loc Cert.OutProjRefIdeal.main_arg9)) (m ((c.tc : Thread Cert.OutProjRefIdeal.nD Cert.OutProjRefIdeal.τ).loc Cert.OutProjRefIdeal.main_arg10)) (m ((c.tc : Thread Cert.OutProjRefIdeal.nD Cert.OutProjRefIdeal.τ).loc Cert.OutProjRefIdeal.main_arg11)) (m ((c.tc : Thread Cert.OutProjRefIdeal.nD Cert.OutProjRefIdeal.τ).loc Cert.OutProjRefIdeal.main_arg12)) (m ((c.tc : Thread Cert.OutProjRefIdeal.nD Cert.OutProjRefIdeal.τ).loc Cert.OutProjRefIdeal.main_arg13))).1 = (fun _ => 1#1)
    ∧ (Cert.Pre_finite_scan.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5)) (m ((c.tc : Thread Cert.OutProjRefIdeal.nD Cert.OutProjRefIdeal.τ).loc Cert.OutProjRefIdeal.main_arg6)) (m ((c.tc : Thread Cert.OutProjRefIdeal.nD Cert.OutProjRefIdeal.τ).loc Cert.OutProjRefIdeal.main_arg7)) (m ((c.tc : Thread Cert.OutProjRefIdeal.nD Cert.OutProjRefIdeal.τ).loc Cert.OutProjRefIdeal.main_arg8)) (m ((c.tc : Thread Cert.OutProjRefIdeal.nD Cert.OutProjRefIdeal.τ).loc Cert.OutProjRefIdeal.main_arg9)) (m ((c.tc : Thread Cert.OutProjRefIdeal.nD Cert.OutProjRefIdeal.τ).loc Cert.OutProjRefIdeal.main_arg10)) (m ((c.tc : Thread Cert.OutProjRefIdeal.nD Cert.OutProjRefIdeal.τ).loc Cert.OutProjRefIdeal.main_arg11)) (m ((c.tc : Thread Cert.OutProjRefIdeal.nD Cert.OutProjRefIdeal.τ).loc Cert.OutProjRefIdeal.main_arg12)) (m ((c.tc : Thread Cert.OutProjRefIdeal.nD Cert.OutProjRefIdeal.τ).loc Cert.OutProjRefIdeal.main_arg13))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8)
      ∧ r.2.mem ((c.tc : Thread Cert.OutProj.nD Cert.OutProj.τ).loc Cert.OutProj.main_arg9) = m ((c.tc : Thread Cert.OutProj.nD Cert.OutProj.τ).loc Cert.OutProj.main_arg9)
      ∧ r.2.mem ((c.tc : Thread Cert.OutProj.nD Cert.OutProj.τ).loc Cert.OutProj.main_arg10) = m ((c.tc : Thread Cert.OutProj.nD Cert.OutProj.τ).loc Cert.OutProj.main_arg10)
      ∧ r.2.mem ((c.tc : Thread Cert.OutProj.nD Cert.OutProj.τ).loc Cert.OutProj.main_arg11) = m ((c.tc : Thread Cert.OutProj.nD Cert.OutProj.τ).loc Cert.OutProj.main_arg11)
      ∧ r.2.mem ((c.tc : Thread Cert.OutProj.nD Cert.OutProj.τ).loc Cert.OutProj.main_arg12) = m ((c.tc : Thread Cert.OutProj.nD Cert.OutProj.τ).loc Cert.OutProj.main_arg12)
      ∧ r.2.mem ((c.tc : Thread Cert.OutProj.nD Cert.OutProj.τ).loc Cert.OutProj.main_arg13) = m ((c.tc : Thread Cert.OutProj.nD Cert.OutProj.τ).loc Cert.OutProj.main_arg13))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
      ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9)
      ∧ r.2.mem ((c.tc : Thread Cert.OutProjIdeal.nD Cert.OutProjIdeal.τ).loc Cert.OutProjIdeal.main_arg10) = m ((c.tc : Thread Cert.OutProjIdeal.nD Cert.OutProjIdeal.τ).loc Cert.OutProjIdeal.main_arg10)
      ∧ r.2.mem ((c.tc : Thread Cert.OutProjIdeal.nD Cert.OutProjIdeal.τ).loc Cert.OutProjIdeal.main_arg11) = m ((c.tc : Thread Cert.OutProjIdeal.nD Cert.OutProjIdeal.τ).loc Cert.OutProjIdeal.main_arg11)
      ∧ r.2.mem ((c.tc : Thread Cert.OutProjIdeal.nD Cert.OutProjIdeal.τ).loc Cert.OutProjIdeal.main_arg12) = m ((c.tc : Thread Cert.OutProjIdeal.nD Cert.OutProjIdeal.τ).loc Cert.OutProjIdeal.main_arg12)
      ∧ r.2.mem ((c.tc : Thread Cert.OutProjIdeal.nD Cert.OutProjIdeal.τ).loc Cert.OutProjIdeal.main_arg13) = m ((c.tc : Thread Cert.OutProjIdeal.nD Cert.OutProjIdeal.τ).loc Cert.OutProjIdeal.main_arg13))
      ∧ r.2.sem = fun _ => 0)

def quiescent_OutProjIdeal_pre_finite_scan [hOutProjIdeal : Cert.OutProjIdeal.Facts] [hPre_finite_scan : Cert.Pre_finite_scan.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal_finite_scan m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
      ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9)
      ∧ r.2.mem ((c.tc : Thread Cert.OutProjIdeal.nD Cert.OutProjIdeal.τ).loc Cert.OutProjIdeal.main_arg10) = m ((c.tc : Thread Cert.OutProjIdeal.nD Cert.OutProjIdeal.τ).loc Cert.OutProjIdeal.main_arg10)
      ∧ r.2.mem ((c.tc : Thread Cert.OutProjIdeal.nD Cert.OutProjIdeal.τ).loc Cert.OutProjIdeal.main_arg11) = m ((c.tc : Thread Cert.OutProjIdeal.nD Cert.OutProjIdeal.τ).loc Cert.OutProjIdeal.main_arg11)
      ∧ r.2.mem ((c.tc : Thread Cert.OutProjIdeal.nD Cert.OutProjIdeal.τ).loc Cert.OutProjIdeal.main_arg12) = m ((c.tc : Thread Cert.OutProjIdeal.nD Cert.OutProjIdeal.τ).loc Cert.OutProjIdeal.main_arg12)
      ∧ r.2.mem ((c.tc : Thread Cert.OutProjIdeal.nD Cert.OutProjIdeal.τ).loc Cert.OutProjIdeal.main_arg13) = m ((c.tc : Thread Cert.OutProjIdeal.nD Cert.OutProjIdeal.τ).loc Cert.OutProjIdeal.main_arg13))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
      ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8)
      ∧ r.2.mem ((c.tc : Thread Cert.OutProjRefIdeal.nD Cert.OutProjRefIdeal.τ).loc Cert.OutProjRefIdeal.main_arg9) = m ((c.tc : Thread Cert.OutProjRefIdeal.nD Cert.OutProjRefIdeal.τ).loc Cert.OutProjRefIdeal.main_arg9)
      ∧ r.2.mem ((c.tc : Thread Cert.OutProjRefIdeal.nD Cert.OutProjRefIdeal.τ).loc Cert.OutProjRefIdeal.main_arg10) = m ((c.tc : Thread Cert.OutProjRefIdeal.nD Cert.OutProjRefIdeal.τ).loc Cert.OutProjRefIdeal.main_arg10)
      ∧ r.2.mem ((c.tc : Thread Cert.OutProjRefIdeal.nD Cert.OutProjRefIdeal.τ).loc Cert.OutProjRefIdeal.main_arg11) = m ((c.tc : Thread Cert.OutProjRefIdeal.nD Cert.OutProjRefIdeal.τ).loc Cert.OutProjRefIdeal.main_arg11)
      ∧ r.2.mem ((c.tc : Thread Cert.OutProjRefIdeal.nD Cert.OutProjRefIdeal.τ).loc Cert.OutProjRefIdeal.main_arg12) = m ((c.tc : Thread Cert.OutProjRefIdeal.nD Cert.OutProjRefIdeal.τ).loc Cert.OutProjRefIdeal.main_arg12)
      ∧ r.2.mem ((c.tc : Thread Cert.OutProjRefIdeal.nD Cert.OutProjRefIdeal.τ).loc Cert.OutProjRefIdeal.main_arg13) = m ((c.tc : Thread Cert.OutProjRefIdeal.nD Cert.OutProjRefIdeal.τ).loc Cert.OutProjRefIdeal.main_arg13))
      ∧ r.2.sem = fun _ => 0)

def quiescent_OutProjRefIdeal_pre_finite_scan [hOutProjRefIdeal : Cert.OutProjRefIdeal.Facts] [hPre_finite_scan : Cert.Pre_finite_scan.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal_finite_scan m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
      ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8)
      ∧ r.2.mem ((c.tc : Thread Cert.OutProjRefIdeal.nD Cert.OutProjRefIdeal.τ).loc Cert.OutProjRefIdeal.main_arg9) = m ((c.tc : Thread Cert.OutProjRefIdeal.nD Cert.OutProjRefIdeal.τ).loc Cert.OutProjRefIdeal.main_arg9)
      ∧ r.2.mem ((c.tc : Thread Cert.OutProjRefIdeal.nD Cert.OutProjRefIdeal.τ).loc Cert.OutProjRefIdeal.main_arg10) = m ((c.tc : Thread Cert.OutProjRefIdeal.nD Cert.OutProjRefIdeal.τ).loc Cert.OutProjRefIdeal.main_arg10)
      ∧ r.2.mem ((c.tc : Thread Cert.OutProjRefIdeal.nD Cert.OutProjRefIdeal.τ).loc Cert.OutProjRefIdeal.main_arg11) = m ((c.tc : Thread Cert.OutProjRefIdeal.nD Cert.OutProjRefIdeal.τ).loc Cert.OutProjRefIdeal.main_arg11)
      ∧ r.2.mem ((c.tc : Thread Cert.OutProjRefIdeal.nD Cert.OutProjRefIdeal.τ).loc Cert.OutProjRefIdeal.main_arg12) = m ((c.tc : Thread Cert.OutProjRefIdeal.nD Cert.OutProjRefIdeal.τ).loc Cert.OutProjRefIdeal.main_arg12)
      ∧ r.2.mem ((c.tc : Thread Cert.OutProjRefIdeal.nD Cert.OutProjRefIdeal.τ).loc Cert.OutProjRefIdeal.main_arg13) = m ((c.tc : Thread Cert.OutProjRefIdeal.nD Cert.OutProjRefIdeal.τ).loc Cert.OutProjRefIdeal.main_arg13))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v108) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v15_0)) (v1 : (c : Dev Cert.InProjIdeal.nD) → Buf (Elt Ideal) ((c.tc : Thread Cert.InProjIdeal.nD Cert.InProjIdeal.τ).loc Cert.InProjIdeal.main_v15_1)) (v2 : (c : Dev Cert.InProjIdeal.nD) → Buf (Elt Ideal) ((c.tc : Thread Cert.InProjIdeal.nD Cert.InProjIdeal.τ).loc Cert.InProjIdeal.main_v15_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v15_0) = v0 c
          ∧ r.2.mem ((c.tc : Thread Cert.InProjIdeal.nD Cert.InProjIdeal.τ).loc Cert.InProjIdeal.main_v15_1) = v1 c
          ∧ r.2.mem ((c.tc : Thread Cert.InProjIdeal.nD Cert.InProjIdeal.τ).loc Cert.InProjIdeal.main_v15_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v25) = v0 c
          ∧ r.2.mem ((c.tc : Thread Cert.InProjRefIdeal.nD Cert.InProjRefIdeal.τ).loc Cert.InProjRefIdeal.main_v27) = v1 c
          ∧ r.2.mem ((c.tc : Thread Cert.InProjRefIdeal.nD Cert.InProjRefIdeal.τ).loc Cert.InProjRefIdeal.main_v29) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_OutProj_OutProjIdeal : Prop :=
  True

def algebraic_OutProjIdeal_OutProjRefIdeal_pre_finite_scan [hOutProjIdeal : Cert.OutProjIdeal.Facts] [hOutProjRefIdeal : Cert.OutProjRefIdeal.Facts] [hPre_finite_scan : Cert.Pre_finite_scan.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal_finite_scan m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)
      ∧ m' ((c.tc : Thread Cert.OutProjRefIdeal.nD Cert.OutProjRefIdeal.τ).loc Cert.OutProjRefIdeal.main_arg8) = m ((c.tc : Thread Cert.OutProjIdeal.nD Cert.OutProjIdeal.τ).loc Cert.OutProjIdeal.main_arg8)
      ∧ m' ((c.tc : Thread Cert.OutProjRefIdeal.nD Cert.OutProjRefIdeal.τ).loc Cert.OutProjRefIdeal.main_arg9) = m ((c.tc : Thread Cert.OutProjIdeal.nD Cert.OutProjIdeal.τ).loc Cert.OutProjIdeal.main_arg9)
      ∧ m' ((c.tc : Thread Cert.OutProjRefIdeal.nD Cert.OutProjRefIdeal.τ).loc Cert.OutProjRefIdeal.main_arg10) = m ((c.tc : Thread Cert.OutProjIdeal.nD Cert.OutProjIdeal.τ).loc Cert.OutProjIdeal.main_arg10)
      ∧ m' ((c.tc : Thread Cert.OutProjRefIdeal.nD Cert.OutProjRefIdeal.τ).loc Cert.OutProjRefIdeal.main_arg11) = m ((c.tc : Thread Cert.OutProjIdeal.nD Cert.OutProjIdeal.τ).loc Cert.OutProjIdeal.main_arg11)
      ∧ m' ((c.tc : Thread Cert.OutProjRefIdeal.nD Cert.OutProjRefIdeal.τ).loc Cert.OutProjRefIdeal.main_arg12) = m ((c.tc : Thread Cert.OutProjIdeal.nD Cert.OutProjIdeal.τ).loc Cert.OutProjIdeal.main_arg12)
      ∧ m' ((c.tc : Thread Cert.OutProjRefIdeal.nD Cert.OutProjRefIdeal.τ).loc Cert.OutProjRefIdeal.main_arg13) = m ((c.tc : Thread Cert.OutProjIdeal.nD Cert.OutProjIdeal.τ).loc Cert.OutProjIdeal.main_arg13)) →
    ∃ (v0 : (c : Dev Cert.OutProjIdeal.nD) → Buf (Elt Ideal) ((c.tc : Thread Cert.OutProjIdeal.nD Cert.OutProjIdeal.τ).loc Cert.OutProjIdeal.main_v39)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v39) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
          ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9)
          ∧ r.2.mem ((c.tc : Thread Cert.OutProjIdeal.nD Cert.OutProjIdeal.τ).loc Cert.OutProjIdeal.main_arg10) = m ((c.tc : Thread Cert.OutProjIdeal.nD Cert.OutProjIdeal.τ).loc Cert.OutProjIdeal.main_arg10)
          ∧ r.2.mem ((c.tc : Thread Cert.OutProjIdeal.nD Cert.OutProjIdeal.τ).loc Cert.OutProjIdeal.main_arg11) = m ((c.tc : Thread Cert.OutProjIdeal.nD Cert.OutProjIdeal.τ).loc Cert.OutProjIdeal.main_arg11)
          ∧ r.2.mem ((c.tc : Thread Cert.OutProjIdeal.nD Cert.OutProjIdeal.τ).loc Cert.OutProjIdeal.main_arg12) = m ((c.tc : Thread Cert.OutProjIdeal.nD Cert.OutProjIdeal.τ).loc Cert.OutProjIdeal.main_arg12)
          ∧ r.2.mem ((c.tc : Thread Cert.OutProjIdeal.nD Cert.OutProjIdeal.τ).loc Cert.OutProjIdeal.main_arg13) = m ((c.tc : Thread Cert.OutProjIdeal.nD Cert.OutProjIdeal.τ).loc Cert.OutProjIdeal.main_arg13))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v66) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7)
          ∧ r.2.mem ((c.tc : Thread Cert.OutProjRefIdeal.nD Cert.OutProjRefIdeal.τ).loc Cert.OutProjRefIdeal.main_arg8) = m' ((c.tc : Thread Cert.OutProjRefIdeal.nD Cert.OutProjRefIdeal.τ).loc Cert.OutProjRefIdeal.main_arg8)
          ∧ r.2.mem ((c.tc : Thread Cert.OutProjRefIdeal.nD Cert.OutProjRefIdeal.τ).loc Cert.OutProjRefIdeal.main_arg9) = m' ((c.tc : Thread Cert.OutProjRefIdeal.nD Cert.OutProjRefIdeal.τ).loc Cert.OutProjRefIdeal.main_arg9)
          ∧ r.2.mem ((c.tc : Thread Cert.OutProjRefIdeal.nD Cert.OutProjRefIdeal.τ).loc Cert.OutProjRefIdeal.main_arg10) = m' ((c.tc : Thread Cert.OutProjRefIdeal.nD Cert.OutProjRefIdeal.τ).loc Cert.OutProjRefIdeal.main_arg10)
          ∧ r.2.mem ((c.tc : Thread Cert.OutProjRefIdeal.nD Cert.OutProjRefIdeal.τ).loc Cert.OutProjRefIdeal.main_arg11) = m' ((c.tc : Thread Cert.OutProjRefIdeal.nD Cert.OutProjRefIdeal.τ).loc Cert.OutProjRefIdeal.main_arg11)
          ∧ r.2.mem ((c.tc : Thread Cert.OutProjRefIdeal.nD Cert.OutProjRefIdeal.τ).loc Cert.OutProjRefIdeal.main_arg12) = m' ((c.tc : Thread Cert.OutProjRefIdeal.nD Cert.OutProjRefIdeal.τ).loc Cert.OutProjRefIdeal.main_arg12)
          ∧ r.2.mem ((c.tc : Thread Cert.OutProjRefIdeal.nD Cert.OutProjRefIdeal.τ).loc Cert.OutProjRefIdeal.main_arg13) = m' ((c.tc : Thread Cert.OutProjRefIdeal.nD Cert.OutProjRefIdeal.τ).loc Cert.OutProjRefIdeal.main_arg13))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hPre_finite_inputs : Cert.Pre_finite_inputs.Facts) (hPre_finite_scan : Cert.Pre_finite_scan.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjIdeal_pre_finite_scan (hOutProjIdeal := hOutProjIdeal) (hPre_finite_scan := hPre_finite_scan)
    ∧ quiescent_OutProjRefIdeal (hOutProjRefIdeal := hOutProjRefIdeal)
    ∧ quiescent_OutProjRefIdeal_pre_finite_scan (hOutProjRefIdeal := hOutProjRefIdeal) (hPre_finite_scan := hPre_finite_scan)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal_pre_finite_scan (hOutProjIdeal := hOutProjIdeal) (hOutProjRefIdeal := hOutProjRefIdeal) (hPre_finite_scan := hPre_finite_scan)
-- ==== Pre_finite_inputs.lean ====
abbrev S2x16400x1568 : Shape := ⟨3, ![2, 16400, 1568]⟩
abbrev S2x16x256 : Shape := ⟨3, ![2, 16, 256]⟩
abbrev S2x256 : Shape := ⟨2, ![2, 256]⟩
abbrev S_ : Shape := ⟨0, ![]⟩

class Facts : Prop where
  bcast_S_S2x16400x1568 : S_.BroadcastsInDim S2x16400x1568 (![] : Fin 0 → Fin S2x16400x1568.rank)
  bcast_S_S2x16x256 : S_.BroadcastsInDim S2x16x256 (![] : Fin 0 → Fin S2x16x256.rank)
  bcast_S_S2x256 : S_.BroadcastsInDim S2x256 (![] : Fin 0 → Fin S2x256.rank)

variable [Facts]

def fn {F : FTy → Type} [FloatOps F] (main_arg0 : FVec F S2x16400x1568 .f32) (main_arg1 : FVec F S2x16x256 .f32) (main_arg2 : FVec F S2x256 .f32) : IVec S2x16400x1568 1 × IVec S2x16x256 1 × IVec S2x256 1 :=
  let main_v0 : FVec F S2x16400x1568 .f32 := Host.absf main_arg0
  let main_cst : FVec F S_ .f32 := constant S_ .f32 0x7F800000#32
  let main_v1 : FVec F S2x16400x1568 .f32 := broadcastInDim S2x16400x1568 ![] bcast_S_S2x16400x1568 main_cst
  let main_v2 : IVec S2x16400x1568 1 := cmpf .olt main_v0 main_v1
  let main_v3 : FVec F S2x16x256 .f32 := Host.absf main_arg1
  let main_cst_0 : FVec F S_ .f32 := constant S_ .f32 0x7F800000#32
  let main_v4 : FVec F S2x16x256 .f32 := broadcastInDim S2x16x256 ![] bcast_S_S2x16x256 main_cst_0
  let main_v5 : IVec S2x16x256 1 := cmpf .olt main_v3 main_v4
  let main_v6 : FVec F S2x256 .f32 := Host.absf main_arg2
  let main_cst_1 : FVec F S_ .f32 := constant S_ .f32 0x7F800000#32
  let main_v7 : FVec F S2x256 .f32 := broadcastInDim S2x256 ![] bcast_S_S2x256 main_cst_1
  let main_v8 : IVec S2x256 1 := cmpf .olt main_v6 main_v7
  (main_v2, main_v5, main_v8)
-- ==== Pre_finite_scan.lean ====
abbrev S2x16400x1024 : Shape := ⟨3, ![2, 16400, 1024]⟩
abbrev S2x16400x512 : Shape := ⟨3, ![2, 16400, 512]⟩
abbrev S2x16400x1568 : Shape := ⟨3, ![2, 16400, 1568]⟩
abbrev S2x16400x2304 : Shape := ⟨3, ![2, 16400, 2304]⟩
abbrev S1536x1024 : Shape := ⟨2, ![1536, 1024]⟩
abbrev S128 : Shape := ⟨1, ![128]⟩
abbrev S512 : Shape := ⟨1, ![512]⟩
abbrev S1024 : Shape := ⟨1, ![1024]⟩
abbrev S_ : Shape := ⟨0, ![]⟩

class Facts : Prop where
  bcast_S_S2x16400x512 : S_.BroadcastsInDim S2x16400x512 (![] : Fin 0 → Fin S2x16400x512.rank)

variable [Facts]

def fn {F : FTy → Type} [FloatOps F] (main_arg0 : FVec F S2x16400x1024 .f32) (main_arg1 : FVec F S2x16400x512 .f32) (main_arg2 : FVec F S2x16400x512 .f32) (main_arg3 : FVec F S2x16400x512 .f32) (main_arg4 : FVec F S2x16400x1568 .f32) (main_arg5 : FVec F S2x16400x512 .f32) (main_arg6 : FVec F S2x16400x512 .f32) (main_arg7 : FVec F S2x16400x512 .f32) (main_arg8 : FVec F S2x16400x2304 .f32) (main_arg9 : FVec F S1536x1024 .f32) (main_arg10 : FVec F S128 .f32) (main_arg11 : FVec F S512 .f32) (main_arg12 : FVec F S512 .f32) (main_arg13 : FVec F S1024 .f32) : IVec S2x16400x512 1 × IVec S2x16400x512 1 :=
  let main_v0 : FVec F S2x16400x512 .f32 := Host.absf main_arg5
  let main_cst : FVec F S_ .f32 := constant S_ .f32 0x7F800000#32
  let main_v1 : FVec F S2x16400x512 .f32 := broadcastInDim S2x16400x512 ![] bcast_S_S2x16400x512 main_cst
  let main_v2 : IVec S2x16400x512 1 := cmpf .olt main_v0 main_v1
  let main_v3 : FVec F S2x16400x512 .f32 := Host.absf main_arg6
  let main_cst_0 : FVec F S_ .f32 := constant S_ .f32 0x7F800000#32
  let main_v4 : FVec F S2x16400x512 .f32 := broadcastInDim S2x16400x512 ![] bcast_S_S2x16400x512 main_cst_0
  let main_v5 : IVec S2x16400x512 1 := cmpf .olt main_v3 main_v4
  (main_v2, main_v5)
-- ==== Kernel.lean ====
abbrev S2x16400x1568 : Shape := ⟨3, ![2, 16400, 1568]⟩
abbrev S2x16x256 : Shape := ⟨3, ![2, 16, 256]⟩
abbrev S2x256 : Shape := ⟨2, ![2, 256]⟩
abbrev S_ : Shape := ⟨0, ![]⟩
abbrev S2x16896x1664 : Shape := ⟨3, ![2, 16896, 1664]⟩
abbrev S2x128x256 : Shape := ⟨3, ![2, 128, 256]⟩
abbrev S1x16x256 : Shape := ⟨3, ![1, 16, 256]⟩
abbrev S16x256 : Shape := ⟨2, ![16, 256]⟩
abbrev S1 : Shape := ⟨1, ![1]⟩
abbrev S2 : Shape := ⟨1, ![2]⟩
abbrev S2x1x256 : Shape := ⟨3, ![2, 1, 256]⟩
abbrev S2x16896x512 : Shape := ⟨3, ![2, 16896, 512]⟩
abbrev S1x64x1664 : Shape := ⟨3, ![1, 64, 1664]⟩
abbrev S1x64x512 : Shape := ⟨3, ![1, 64, 512]⟩
abbrev S2x256x256 : Shape := ⟨3, ![2, 256, 256]⟩
abbrev S64x512 : Shape := ⟨2, ![64, 512]⟩
abbrev S1x128 : Shape := ⟨2, ![1, 128]⟩
abbrev S256x128 : Shape := ⟨2, ![256, 128]⟩
abbrev S64x128 : Shape := ⟨2, ![64, 128]⟩
abbrev S64x1 : Shape := ⟨2, ![64, 1]⟩
abbrev S64x64 : Shape := ⟨2, ![64, 64]⟩
abbrev S64x1664 : Shape := ⟨2, ![64, 1664]⟩
abbrev S64x256 : Shape := ⟨2, ![64, 256]⟩
abbrev S1x128x256 : Shape := ⟨3, ![1, 128, 256]⟩
abbrev S128x256 : Shape := ⟨2, ![128, 256]⟩
abbrev S1x1x256 : Shape := ⟨3, ![1, 1, 256]⟩
abbrev S1x256 : Shape := ⟨2, ![1, 256]⟩
abbrev S256 : Shape := ⟨1, ![256]⟩
abbrev S128x128 : Shape := ⟨2, ![128, 128]⟩
abbrev S1x256x128 : Shape := ⟨3, ![1, 256, 128]⟩

abbrev nBuf : Space → Nat
  | .hbm => 27
  | .vmem => 11
  | .smem => 0
  | _ => 0

abbrev bufTy : (tb : Table) → Fin (tcTables nBuf tb) → BufTy
  | .hbm, ⟨0, _⟩ => ⟨S2x16400x1568, .f32⟩
  | .hbm, ⟨1, _⟩ => ⟨S2x16x256, .f32⟩
  | .hbm, ⟨2, _⟩ => ⟨S2x256, .f32⟩
  | .hbm, ⟨3, _⟩ => ⟨S_, .i32⟩
  | .hbm, ⟨4, _⟩ => ⟨S_, .f32⟩
  | .hbm, ⟨5, _⟩ => ⟨S2x16896x1664, .f32⟩
  | .hbm, ⟨6, _⟩ => ⟨S_, .f32⟩
  | .hbm, ⟨7, _⟩ => ⟨S2x128x256, .f32⟩
  | .hbm, ⟨8, _⟩ => ⟨S1x16x256, .f32⟩
  | .hbm, ⟨9, _⟩ => ⟨S16x256, .f32⟩
  | .hbm, ⟨10, _⟩ => ⟨S_, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S2, .i32⟩
  | .hbm, ⟨15, _⟩ => ⟨S2x128x256, .f32⟩
  | .hbm, ⟨16, _⟩ => ⟨S1x16x256, .f32⟩
  | .hbm, ⟨17, _⟩ => ⟨S16x256, .f32⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S2, .i32⟩
  | .hbm, ⟨23, _⟩ => ⟨S2x128x256, .f32⟩
  | .hbm, ⟨24, _⟩ => ⟨S2x1x256, .f32⟩
  | .hbm, ⟨25, _⟩ => ⟨S2x16896x512, .f32⟩
  | .hbm, ⟨26, _⟩ => ⟨S2x16896x512, .f32⟩
  | .local _ .vmem, ⟨0, _⟩ => ⟨S1x64x1664, .f32⟩
  | .local _ .vmem, ⟨1, _⟩ => ⟨S1x64x1664, .f32⟩
  | .local _ .vmem, ⟨2, _⟩ => ⟨S1x64x1664, .f32⟩
  | .local _ .vmem, ⟨3, _⟩ => ⟨S1x64x1664, .f32⟩
  | .local _ .vmem, ⟨4, _⟩ => ⟨S2x128x256, .f32⟩
  | .local _ .vmem, ⟨5, _⟩ => ⟨S2x1x256, .f32⟩
  | .local _ .vmem, ⟨6, _⟩ => ⟨S1x64x512, .f32⟩
  | .local _ .vmem, ⟨7, _⟩ => ⟨S1x64x512, .f32⟩
  | .local _ .vmem, ⟨8, _⟩ => ⟨S1x64x512, .f32⟩
  | .local _ .vmem, ⟨9, _⟩ => ⟨S1x64x512, .f32⟩
  | .local _ .vmem, ⟨10, _⟩ => ⟨S2x256x256, .f32⟩
  | _, _ => ⟨S2x16400x1568, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 264], ![false, false]⟩

def k0_cond2 (i : grid0.Coords) : BitVec 1 :=
  let arg1 : BitVec 32 := BitVec.ofNat 32 (i 1).val
  let c7_i32 : BitVec 32 := 7#32
  let v3 : BitVec 1 := Scalar.cmpi .slt arg1 c7_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c7_i32_2 : BitVec 32 := 7#32
  let v6 : BitVec 1 := Scalar.cmpi .sge arg1 c7_i32_2
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 1 := Scalar.cmpi .sle arg1 c7_i32
  let c271_i32 : BitVec 32 := 271#32
  let v1 : BitVec 32 := Scalar.subi c271_i32 arg1
  let v2 : BitVec 32 := Scalar.select v0 arg1 v1
  let v_false : BitVec 1 := 0#1
  let v3 : BitVec 32 := Scalar.select v_false arg1 v2
  let c0_i32 : BitVec 32 := 0#32
  let c0_i32_0 : BitVec 32 := 0#32
  ![arg0.toNat, v3.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 1 := Scalar.cmpi .sle arg1 c7_i32
  let c271_i32 : BitVec 32 := 271#32
  let v1 : BitVec 32 := Scalar.subi c271_i32 arg1
  let v2 : BitVec 32 := Scalar.select v0 arg1 v1
  let v_false : BitVec 1 := 0#1
  let v3 : BitVec 32 := Scalar.select v_false arg1 v2
  let c0_i32 : BitVec 32 := 0#32
  let c0_i32_0 : BitVec 32 := 0#32
  ![arg0.toNat, v3.toNat, c0_i32.toNat]

abbrev stage0_0 : Fin 2 → Memref sig .tc .vmem S1x64x1664 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1664 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S2x16400x1568 : Shape := ⟨3, ![2, 16400, 1568]⟩
abbrev S2x16x256 : Shape := ⟨3, ![2, 16, 256]⟩
abbrev S2x256 : Shape := ⟨2, ![2, 256]⟩
abbrev S2x16400x256 : Shape := ⟨3, ![2, 16400, 256]⟩
abbrev S2x16400x512 : Shape := ⟨3, ![2, 16400, 512]⟩
abbrev S2x16400x32 : Shape := ⟨3, ![2, 16400, 32]⟩
abbrev S2x16400x2x16 : Shape := ⟨4, ![2, 16400, 2, 16]⟩
abbrev S2x2x16400x256 : Shape := ⟨4, ![2, 2, 16400, 256]⟩
abbrev S2x1x1x256 : Shape := ⟨4, ![2, 1, 1, 256]⟩
abbrev S_ : Shape := ⟨0, ![]⟩
abbrev S2x16384x256 : Shape := ⟨3, ![2, 16384, 256]⟩
abbrev S1x2x16400x256 : Shape := ⟨4, ![1, 2, 16400, 256]⟩
abbrev S2x2x16400x4x64 : Shape := ⟨5, ![2, 2, 16400, 4, 64]⟩
abbrev S2x16x512 : Shape := ⟨3, ![2, 16, 512]⟩
abbrev S2x16384x512 : Shape := ⟨3, ![2, 16384, 512]⟩
abbrev S1x2x16400x512 : Shape := ⟨4, ![1, 2, 16400, 512]⟩
abbrev S2x2x16400x512 : Shape := ⟨4, ![2, 2, 16400, 512]⟩
abbrev S2x2x16400x4x128 : Shape := ⟨5, ![2, 2, 16400, 4, 128]⟩
abbrev S2x2x16448x4x64 : Shape := ⟨5, ![2, 2, 16448, 4, 64]⟩
abbrev S2x2x257x64x4x64 : Shape := ⟨6, ![2, 2, 257, 64, 4, 64]⟩
abbrev S2x2x4x257x64x64 : Shape := ⟨6, ![2, 2, 4, 257, 64, 64]⟩
abbrev S2x2x16448x4x128 : Shape := ⟨5, ![2, 2, 16448, 4, 128]⟩
abbrev S2x2x257x64x4x128 : Shape := ⟨6, ![2, 2, 257, 64, 4, 128]⟩
abbrev S2x2x4x257x64x128 : Shape := ⟨6, ![2, 2, 4, 257, 64, 128]⟩
abbrev S2x2x4x257x1x64 : Shape := ⟨6, ![2, 2, 4, 257, 1, 64]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S2x2x4x257x64 : Shape := ⟨5, ![2, 2, 4, 257, 64]⟩
abbrev S2x2x4x64x128 : Shape := ⟨5, ![2, 2, 4, 64, 128]⟩
abbrev S257x2x2x4x64x128 : Shape := ⟨6, ![257, 2, 2, 4, 64, 128]⟩
abbrev S257x2x2x4x64 : Shape := ⟨5, ![257, 2, 2, 4, 64]⟩
abbrev S257x2x2x4x64x64 : Shape := ⟨6, ![257, 2, 2, 4, 64, 64]⟩
abbrev S1x2x2x4x64x128 : Shape := ⟨6, ![1, 2, 2, 4, 64, 128]⟩
abbrev S1x2x2x4x64 : Shape := ⟨5, ![1, 2, 2, 4, 64]⟩
abbrev S2x2x4x64 : Shape := ⟨4, ![2, 2, 4, 64]⟩
abbrev S1x2x2x4x64x64 : Shape := ⟨6, ![1, 2, 2, 4, 64, 64]⟩
abbrev S2x2x4x64x64 : Shape := ⟨5, ![2, 2, 4, 64, 64]⟩
abbrev S2x2x4x64x1 : Shape := ⟨5, ![2, 2, 4, 64, 1]⟩
abbrev S2x16896x512 : Shape := ⟨3, ![2, 16896, 512]⟩

abbrev nBuf : Space → Nat
  | .hbm => 200
  | .vmem => 0
  | .smem => 0
  | _ => 0

abbrev hbmTy0_0 (i : Nat) : BufTy := match i % 128 with
  | 0 => ⟨S2x16400x1568, .f32⟩
  | 1 => ⟨S2x16x256, .f32⟩
  | 2 => ⟨S2x256, .f32⟩
  | 3 => ⟨S2x16400x256, .f32⟩
  | 4 => ⟨S2x16400x256, .f32⟩
  | 5 => ⟨S2x16400x512, .f32⟩
  | 6 => ⟨S2x16400x32, .f32⟩
  | 7 => ⟨S2x16400x2x16, .f32⟩
  | 8 => ⟨S2x2x16400x256, .f32⟩
  | 9 => ⟨S2x1x1x256, .f32⟩
  | 10 => ⟨S2x2x16400x256, .f32⟩
  | 11 => ⟨S2x2x16400x256, .f32⟩
  | 12 => ⟨S2x2x16400x256, .f32⟩
  | 13 => ⟨S_, .f32⟩
  | 14 => ⟨S2x2x16400x256, .f32⟩
  | 15 => ⟨S2x2x16400x256, .f32⟩
  | 16 => ⟨S2x2x16400x256, .f32⟩
  | 17 => ⟨S2x2x16400x256, .f32⟩
  | 18 => ⟨S2x2x16400x256, .i1⟩
  | 19 => ⟨S2x2x16400x256, .f32⟩
  | 20 => ⟨S2x2x16400x256, .f32⟩
  | 21 => ⟨S2x2x16400x256, .f32⟩
  | 22 => ⟨S2x2x16400x256, .f32⟩
  | 23 => ⟨S2x2x16400x256, .f32⟩
  | 24 => ⟨S2x2x16400x256, .f32⟩
  | 25 => ⟨S2x2x16400x256, .f32⟩
  | 26 => ⟨S2x2x16400x256, .f32⟩
  | 27 => ⟨S2x2x16400x256, .f32⟩
  | 28 => ⟨S_, .f32⟩
  | 29 => ⟨S2x2x16400x256, .f32⟩
  | 30 => ⟨S2x2x16400x256, .f32⟩
  | 31 => ⟨S_, .f32⟩
  | 32 => ⟨S2x16400x256, .f32⟩
  | 33 => ⟨S2x16400x256, .f32⟩
  | 34 => ⟨S2x16x256, .f32⟩
  | 35 => ⟨S2x16384x256, .f32⟩
  | 36 => ⟨S2x16384x256, .f32⟩
  | 37 => ⟨S2x16400x256, .f32⟩
  | 38 => ⟨S1x2x16400x256, .f32⟩
  | 39 => ⟨S1x2x16400x256, .f32⟩
  | 40 => ⟨S2x2x16400x256, .f32⟩
  | 41 => ⟨S2x2x16400x4x64, .f32⟩
  | 42 => ⟨S2x16x256, .f32⟩
  | 43 => ⟨S2x16384x256, .f32⟩
  | 44 => ⟨S2x16384x256, .f32⟩
  | 45 => ⟨S2x16400x256, .f32⟩
  | 46 => ⟨S1x2x16400x256, .f32⟩
  | 47 => ⟨S1x2x16400x256, .f32⟩
  | 48 => ⟨S2x2x16400x256, .f32⟩
  | 49 => ⟨S2x2x16400x4x64, .f32⟩
  | 50 => ⟨S2x16x512, .f32⟩
  | 51 => ⟨S2x16384x512, .f32⟩
  | 52 => ⟨S2x16384x512, .f32⟩
  | 53 => ⟨S2x16400x512, .f32⟩
  | 54 => ⟨S1x2x16400x512, .f32⟩
  | 55 => ⟨S1x2x16400x512, .f32⟩
  | 56 => ⟨S2x2x16400x512, .f32⟩
  | 57 => ⟨S2x2x16400x4x128, .f32⟩
  | 58 => ⟨S1x2x16400x256, .f32⟩
  | 59 => ⟨S2x16400x256, .f32⟩
  | 60 => ⟨S1x2x16400x256, .f32⟩
  | 61 => ⟨S2x16400x256, .f32⟩
  | 62 => ⟨S2x16x256, .f32⟩
  | 63 => ⟨S2x16384x256, .f32⟩
  | 64 => ⟨S2x16384x256, .f32⟩
  | 65 => ⟨S2x16400x256, .f32⟩
  | 66 => ⟨S1x2x16400x256, .f32⟩
  | 67 => ⟨S1x2x16400x256, .f32⟩
  | 68 => ⟨S2x2x16400x256, .f32⟩
  | 69 => ⟨S2x2x16400x4x64, .f32⟩
  | 70 => ⟨S_, .i32⟩
  | 71 => ⟨S_, .f32⟩
  | 72 => ⟨S2x2x16448x4x64, .f32⟩
  | 73 => ⟨S2x2x257x64x4x64, .f32⟩
  | 74 => ⟨S2x2x4x257x64x64, .f32⟩
  | 75 => ⟨S_, .i32⟩
  | 76 => ⟨S_, .f32⟩
  | 77 => ⟨S2x2x16448x4x64, .f32⟩
  | 78 => ⟨S2x2x257x64x4x64, .f32⟩
  | 79 => ⟨S2x2x4x257x64x64, .f32⟩
  | 80 => ⟨S_, .i32⟩
  | 81 => ⟨S_, .f32⟩
  | 82 => ⟨S2x2x16448x4x128, .f32⟩
  | 83 => ⟨S2x2x257x64x4x128, .f32⟩
  | 84 => ⟨S2x2x4x257x64x128, .f32⟩
  | 85 => ⟨S_, .i32⟩
  | 86 => ⟨S_, .f32⟩
  | 87 => ⟨S2x2x16448x4x64, .f32⟩
  | 88 => ⟨S2x2x257x64x4x64, .f32⟩
  | 89 => ⟨S2x2x4x257x64x64, .f32⟩
  | 90 => ⟨S_, .f32⟩
  | 91 => ⟨S_, .f32⟩
  | 92 => ⟨S2x2x4x257x64x64, .f32⟩
  | 93 => ⟨S2x2x4x257x64x64, .f32⟩
  | 94 => ⟨S2x2x4x257x64x64, .f32⟩
  | 95 => ⟨S2x2x4x257x64x64, .f32⟩
  | 96 => ⟨S2x2x4x257x64x64, .f32⟩
  | 97 => ⟨S2x2x4x257x64x64, .f32⟩
  | 98 => ⟨S2x2x4x257x1x64, .f32⟩
  | 99 => ⟨S2x2x4x257x64x64, .f32⟩
  | 100 => ⟨S2x2x4x257x64x64, .f32⟩
  | 101 => ⟨S2x2x4x257x64x64, .f32⟩
  | 102 => ⟨S2x2x4x257x64x64, .f32⟩
  | 103 => ⟨S64, .i32⟩
  | 104 => ⟨S64x1, .i32⟩
  | 105 => ⟨S64, .i32⟩
  | 106 => ⟨S1x64, .i32⟩
  | 107 => ⟨S64x64, .i32⟩
  | 108 => ⟨S64x64, .i32⟩
  | 109 => ⟨S64x64, .i1⟩
  | 110 => ⟨S2x2x4x257x64x64, .f32⟩
  | 111 => ⟨S_, .f32⟩
  | 112 => ⟨S_, .f32⟩
  | 113 => ⟨S2x2x4x257x64x64, .i1⟩
  | 114 => ⟨S2x2x4x257x64x64, .f32⟩
  | 115 => ⟨S2x2x4x257x64x64, .f32⟩
  | 116 => ⟨S2x2x4x257x64x128, .f32⟩
  | 117 => ⟨S2x2x4x257x64x128, .f32⟩
  | 118 => ⟨S2x2x4x257x1x64, .f32⟩
  | 119 => ⟨S2x2x4x257x64, .f32⟩
  | 120 => ⟨S2x2x4x257x64, .f32⟩
  | 121 => ⟨S_, .f32⟩
  | 122 => ⟨S2x2x4x64x128, .f32⟩
  | 123 => ⟨S257x2x2x4x64x128, .f32⟩
  | 124 => ⟨S257x2x2x4x64, .f32⟩
  | 125 => ⟨S257x2x2x4x64x64, .f32⟩
  | 126 => ⟨S257x2x2x4x64x128, .f32⟩
  | 127 => ⟨S_, .f32⟩
  | _ => ⟨S2x16400x1568, .f32⟩

abbrev hbmTy0_1 (i : Nat) : BufTy := match i % 128 with
  | 0 => ⟨S257x2x2x4x64x128, .f32⟩
  | 1 => ⟨S_, .i32⟩
  | 2 => ⟨S257x2x2x4x64x128, .f32⟩
  | 3 => ⟨S257x2x2x4x64, .f32⟩
  | 4 => ⟨S257x2x2x4x64x64, .f32⟩
  | 5 => ⟨S257x2x2x4x64x128, .f32⟩
  | 6 => ⟨S_, .i32⟩
  | 7 => ⟨S2x2x4x64x128, .f32⟩
  | 8 => ⟨S257x2x2x4x64x128, .f32⟩
  | 9 => ⟨S_, .i32⟩
  | 10 => ⟨S_, .i1⟩
  | 11 => ⟨S_, .i32⟩
  | 12 => ⟨S_, .i32⟩
  | 13 => ⟨S_, .i32⟩
  | 14 => ⟨S_, .i32⟩
  | 15 => ⟨S_, .i32⟩
  | 16 => ⟨S1x2x2x4x64x128, .f32⟩
  | 17 => ⟨S2x2x4x64x128, .f32⟩
  | 18 => ⟨S_, .i32⟩
  | 19 => ⟨S_, .i32⟩
  | 20 => ⟨S_, .i32⟩
  | 21 => ⟨S_, .i32⟩
  | 22 => ⟨S1x2x2x4x64, .f32⟩
  | 23 => ⟨S2x2x4x64, .f32⟩
  | 24 => ⟨S_, .i32⟩
  | 25 => ⟨S_, .i32⟩
  | 26 => ⟨S_, .i32⟩
  | 27 => ⟨S_, .i32⟩
  | 28 => ⟨S_, .i32⟩
  | 29 => ⟨S1x2x2x4x64x64, .f32⟩
  | 30 => ⟨S2x2x4x64x64, .f32⟩
  | 31 => ⟨S_, .i32⟩
  | 32 => ⟨S_, .i32⟩
  | 33 => ⟨S_, .i32⟩
  | 34 => ⟨S_, .i32⟩
  | 35 => ⟨S_, .i32⟩
  | 36 => ⟨S1x2x2x4x64x128, .f32⟩
  | 37 => ⟨S2x2x4x64x128, .f32⟩
  | 38 => ⟨S2x2x4x64x1, .f32⟩
  | 39 => ⟨S2x2x4x64x128, .f32⟩
  | 40 => ⟨S2x2x4x64x128, .f32⟩
  | 41 => ⟨S2x2x4x64x128, .f32⟩
  | 42 => ⟨S2x2x4x64x128, .f32⟩
  | 43 => ⟨S2x2x4x64x128, .f32⟩
  | 44 => ⟨S1x2x2x4x64x128, .f32⟩
  | 45 => ⟨S_, .i32⟩
  | 46 => ⟨S_, .i32⟩
  | 47 => ⟨S_, .i32⟩
  | 48 => ⟨S_, .i32⟩
  | 49 => ⟨S_, .i32⟩
  | 50 => ⟨S257x2x2x4x64x128, .f32⟩
  | 51 => ⟨S_, .i32⟩
  | 52 => ⟨S_, .i32⟩
  | 53 => ⟨S2x2x4x257x64x128, .f32⟩
  | 54 => ⟨S2x2x257x64x4x128, .f32⟩
  | 55 => ⟨S2x2x16448x4x128, .f32⟩
  | 56 => ⟨S2x2x16400x4x128, .f32⟩
  | 57 => ⟨S2x2x16400x512, .f32⟩
  | 58 => ⟨S1x2x16400x512, .f32⟩
  | 59 => ⟨S2x16400x512, .f32⟩
  | 60 => ⟨S_, .i32⟩
  | 61 => ⟨S_, .f32⟩
  | 62 => ⟨S2x16896x512, .f32⟩
  | 63 => ⟨S1x2x16400x512, .f32⟩
  | 64 => ⟨S2x16400x512, .f32⟩
  | 65 => ⟨S2x16x512, .f32⟩
  | 66 => ⟨S2x16384x512, .f32⟩
  | 67 => ⟨S2x16384x512, .f32⟩
  | 68 => ⟨S2x16400x512, .f32⟩
  | 69 => ⟨S_, .i32⟩
  | 70 => ⟨S_, .f32⟩
  | 71 => ⟨S2x16896x512, .f32⟩
  | _ => ⟨S2x16400x1568, .f32⟩

abbrev hbmTy (i : Nat) : BufTy := match i / 128 with
  | 0 => hbmTy0_0 i
  | 1 => hbmTy0_1 i
  | _ => ⟨S2x16400x1568, .f32⟩

abbrev bufTy : (tb : Table) → Fin (tcTables nBuf tb) → BufTy
  | .hbm, ⟨i, _⟩ => hbmTy i
  | _, _ => ⟨S2x16400x1568, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_v1 : Ref sig .tc := ⟨.hbm, 26, rfl⟩
abbrev main_v9 : Ref sig .tc := ⟨.hbm, 27, rfl⟩
abbrev main_cst : Ref sig .tc := ⟨.hbm, 28, rfl⟩
abbrev main_v10 : Ref sig .tc := ⟨.hbm, 29, rfl⟩
abbrev main_v11 : Ref sig .tc := ⟨.hbm, 30, rfl⟩
abbrev main_cst_0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c : Ref sig .tc := ⟨.hbm, 70, rfl⟩
abbrev main_call5_v0 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_1 : Ref sig .tc := ⟨.hbm, 75, rfl⟩
abbrev main_call6_v0 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_2 : Ref sig .tc := ⟨.hbm, 80, rfl⟩
abbrev main_call7_v0 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_c_3 : Ref sig .tc := ⟨.hbm, 85, rfl⟩
abbrev main_call8_v0 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_call9_call0_cst : Ref sig .tc := ⟨.hbm, 90, rfl⟩
abbrev main_call9_call0_v0 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_4 : Ref sig .tc := ⟨.hbm, 111, rfl⟩
abbrev main_call10_v0 : Ref sig .tc := ⟨.hbm, 112, rfl⟩
abbrev main_call10_v1 : Ref sig .tc := ⟨.hbm, 113, rfl⟩
abbrev main_call10_v2 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_5 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_6 : Ref sig .tc := ⟨.hbm, 127, rfl⟩
abbrev main_v92 : Ref sig .tc := ⟨.hbm, 128, rfl⟩
abbrev main_c_7 : Ref sig .tc := ⟨.hbm, 129, rfl⟩
abbrev main_v93_0 : Ref sig .tc := ⟨.hbm, 130, rfl⟩
abbrev main_v93_1 : Ref sig .tc := ⟨.hbm, 131, rfl⟩
abbrev main_v93_2 : Ref sig .tc := ⟨.hbm, 132, rfl⟩
abbrev main_v93_3 : Ref sig .tc := ⟨.hbm, 133, rfl⟩
abbrev main_v93_4 : Ref sig .tc := ⟨.hbm, 134, rfl⟩
abbrev main_v93_5 : Ref sig .tc := ⟨.hbm, 135, rfl⟩
abbrev main_v93_6 : Ref sig .tc := ⟨.hbm, 136, rfl⟩
abbrev main_while0c_c_16 : Ref sig .tc := ⟨.hbm, 137, rfl⟩
abbrev main_while0c_v109 : Ref sig .tc := ⟨.hbm, 138, rfl⟩
abbrev main_while0b_call11_c : Ref sig .tc := ⟨.hbm, 139, rfl⟩
abbrev main_while0b_call11_c_0 : Ref sig .tc := ⟨.hbm, 140, rfl⟩
abbrev main_while0b_call11_c_1 : Ref sig .tc := ⟨.hbm, 141, rfl⟩
abbrev main_while0b_call11_c_2 : Ref sig .tc := ⟨.hbm, 142, rfl⟩
abbrev main_while0b_call11_c_3 : Ref sig .tc := ⟨.hbm, 143, rfl⟩
abbrev main_while0b_call11_v0 : Ref sig .tc := ⟨.hbm, 144, rfl⟩
abbrev main_while0b_v109 : Ref sig .tc := ⟨.hbm, 145, rfl⟩
abbrev main_while0b_call12_c : Ref sig .tc := ⟨.hbm, 146, rfl⟩
abbrev main_while0b_call12_c_0 : Ref sig .tc := ⟨.hbm, 147, rfl⟩
abbrev main_while0b_call12_c_1 : Ref sig .tc := ⟨.hbm, 148, rfl⟩
abbrev main_while0b_call12_c_2 : Ref sig .tc := ⟨.hbm, 149, rfl⟩
abbrev main_while0b_call12_v0 : Ref sig .tc := ⟨.hbm, 150, rfl⟩
abbrev main_while0b_v110 : Ref sig .tc := ⟨.hbm, 151, rfl⟩
abbrev main_while0b_call13_c : Ref sig .tc := ⟨.hbm, 152, rfl⟩
abbrev main_while0b_call13_c_0 : Ref sig .tc := ⟨.hbm, 153, rfl⟩
abbrev main_while0b_call13_c_1 : Ref sig .tc := ⟨.hbm, 154, rfl⟩
abbrev main_while0b_call13_c_2 : Ref sig .tc := ⟨.hbm, 155, rfl⟩
abbrev main_while0b_call13_c_3 : Ref sig .tc := ⟨.hbm, 156, rfl⟩
abbrev main_while0b_call13_v0 : Ref sig .tc := ⟨.hbm, 157, rfl⟩
abbrev main_while0b_v111 : Ref sig .tc := ⟨.hbm, 158, rfl⟩
abbrev main_while0b_call14_c : Ref sig .tc := ⟨.hbm, 159, rfl⟩
abbrev main_while0b_call14_c_0 : Ref sig .tc := ⟨.hbm, 160, rfl⟩
abbrev main_while0b_call14_c_1 : Ref sig .tc := ⟨.hbm, 161, rfl⟩
abbrev main_while0b_call14_c_2 : Ref sig .tc := ⟨.hbm, 162, rfl⟩
abbrev main_while0b_call14_c_3 : Ref sig .tc := ⟨.hbm, 163, rfl⟩
abbrev main_while0b_call14_v0 : Ref sig .tc := ⟨.hbm, 164, rfl⟩
abbrev main_while0b_v112 : Ref sig .tc := ⟨.hbm, 165, rfl⟩
abbrev main_while0b_v113 : Ref sig .tc := ⟨.hbm, 166, rfl⟩
abbrev main_while0b_v114 : Ref sig .tc := ⟨.hbm, 167, rfl⟩
abbrev main_while0b_v115 : Ref sig .tc := ⟨.hbm, 168, rfl⟩
abbrev main_while0b_v116 : Ref sig .tc := ⟨.hbm, 169, rfl⟩
abbrev main_while0b_v117 : Ref sig .tc := ⟨.hbm, 170, rfl⟩
abbrev main_while0b_v118 : Ref sig .tc := ⟨.hbm, 171, rfl⟩
abbrev main_while0b_call15_v0 : Ref sig .tc := ⟨.hbm, 172, rfl⟩
abbrev main_while0b_call15_c : Ref sig .tc := ⟨.hbm, 173, rfl⟩
abbrev main_while0b_call15_c_0 : Ref sig .tc := ⟨.hbm, 174, rfl⟩
abbrev main_while0b_call15_c_1 : Ref sig .tc := ⟨.hbm, 175, rfl⟩
abbrev main_while0b_call15_c_2 : Ref sig .tc := ⟨.hbm, 176, rfl⟩
abbrev main_while0b_call15_c_3 : Ref sig .tc := ⟨.hbm, 177, rfl⟩
abbrev main_while0b_v119 : Ref sig .tc := ⟨.hbm, 178, rfl⟩
abbrev main_while0b_c_16 : Ref sig .tc := ⟨.hbm, 179, rfl⟩
abbrev main_while0b_v120 : Ref sig .tc := ⟨.hbm, 180, rfl⟩
abbrev main_v94 : Ref sig .tc := ⟨.hbm, 181, rfl⟩
abbrev main_v95 : Ref sig .tc := ⟨.hbm, 182, rfl⟩
abbrev main_v96 : Ref sig .tc := ⟨.hbm, 183, rfl⟩
abbrev main_v97 : Ref sig .tc := ⟨.hbm, 184, rfl⟩
abbrev main_v98 : Ref sig .tc := ⟨.hbm, 185, rfl⟩
abbrev main_v99 : Ref sig .tc := ⟨.hbm, 186, rfl⟩
abbrev main_v100 : Ref sig .tc := ⟨.hbm, 187, rfl⟩
abbrev main_c_8 : Ref sig .tc := ⟨.hbm, 188, rfl⟩
abbrev main_call16_v0 : Ref sig .tc := ⟨.hbm, 189, rfl⟩
abbrev main_v101 : Ref sig .tc := ⟨.hbm, 190, rfl⟩
abbrev main_v102 : Ref sig .tc := ⟨.hbm, 191, rfl⟩
abbrev main_v103 : Ref sig .tc := ⟨.hbm, 192, rfl⟩
abbrev main_v104 : Ref sig .tc := ⟨.hbm, 193, rfl⟩
abbrev main_v105 : Ref sig .tc := ⟨.hbm, 194, rfl⟩
abbrev main_v106 : Ref sig .tc := ⟨.hbm, 195, rfl⟩
abbrev main_v107 : Ref sig .tc := ⟨.hbm, 196, rfl⟩
abbrev main_c_9 : Ref sig .tc := ⟨.hbm, 197, rfl⟩
abbrev main_call18_v0 : Ref sig .tc := ⟨.hbm, 198, rfl⟩
abbrev main_v108 : Ref sig .tc := ⟨.hbm, 199, rfl⟩

abbrev nD : Nat := 1
abbrev τ : Topo := Topo.v7x

variable {F : FTy → Type} [FloatOps F]

abbrev main_while0_count : Scf.Loop 32 := ⟨0#32, 257#32, 1#32⟩
-- ==== InProj.lean ====
abbrev S2x16400x1024 : Shape := ⟨3, ![2, 16400, 1024]⟩
abbrev S1024 : Shape := ⟨1, ![1024]⟩
abbrev S1024x5920 : Shape := ⟨2, ![1024, 5920]⟩
abbrev S_ : Shape := ⟨0, ![]⟩
abbrev S2x496x1024 : Shape := ⟨3, ![2, 496, 1024]⟩
abbrev S2x16896x1024 : Shape := ⟨3, ![2, 16896, 1024]⟩
abbrev S1024x2048 : Shape := ⟨2, ![1024, 2048]⟩
abbrev S1024x1568 : Shape := ⟨2, ![1024, 1568]⟩
abbrev S1024x1664 : Shape := ⟨2, ![1024, 1664]⟩
abbrev S1024x2304 : Shape := ⟨2, ![1024, 2304]⟩
abbrev S1024x1536 : Shape := ⟨2, ![1024, 1536]⟩
abbrev S1024x512 : Shape := ⟨2, ![1024, 512]⟩
abbrev S1024x256 : Shape := ⟨2, ![1024, 256]⟩
abbrev S33792x1024 : Shape := ⟨2, ![33792, 1024]⟩
abbrev S1x1024 : Shape := ⟨2, ![1, 1024]⟩
abbrev S33792x2048 : Shape := ⟨2, ![33792, 2048]⟩
abbrev S33792x1664 : Shape := ⟨2, ![33792, 1664]⟩
abbrev S33792x2304 : Shape := ⟨2, ![33792, 2304]⟩
abbrev S256x1024 : Shape := ⟨2, ![256, 1024]⟩
abbrev S256x2048 : Shape := ⟨2, ![256, 2048]⟩
abbrev S256x1664 : Shape := ⟨2, ![256, 1664]⟩
abbrev S256x2304 : Shape := ⟨2, ![256, 2304]⟩
abbrev S256 : Shape := ⟨1, ![256]⟩
abbrev S256x1 : Shape := ⟨2, ![256, 1]⟩

abbrev nBuf : Space → Nat
  | .hbm => 24
  | .vmem => 12
  | .smem => 0
  | _ => 0

abbrev bufTy : (tb : Table) → Fin (tcTables nBuf tb) → BufTy
  | .hbm, ⟨0, _⟩ => ⟨S2x16400x1024, .f32⟩
  | .hbm, ⟨1, _⟩ => ⟨S1024, .f32⟩
  | .hbm, ⟨2, _⟩ => ⟨S1024x5920, .f32⟩
  | .hbm, ⟨3, _⟩ => ⟨S_, .f32⟩
  | .hbm, ⟨4, _⟩ => ⟨S2x496x1024, .f32⟩
  | .hbm, ⟨5, _⟩ => ⟨S2x16896x1024, .f32⟩
  | .hbm, ⟨6, _⟩ => ⟨S1024x2048, .f32⟩
  | .hbm, ⟨7, _⟩ => ⟨S1024x2048, .bf16⟩
  | .hbm, ⟨8, _⟩ => ⟨S1024x1568, .f32⟩
  | .hbm, ⟨9, _⟩ => ⟨S_, .i32⟩
  | .hbm, ⟨10, _⟩ => ⟨S_, .f32⟩
  | .hbm, ⟨11, _⟩ => ⟨S1024x1664, .f32⟩
  | .hbm, ⟨12, _⟩ => ⟨S1024x1664, .bf16⟩
  | .hbm, ⟨13, _⟩ => ⟨S1024x2304, .f32⟩
  | .hbm, ⟨14, _⟩ => ⟨S1024x1536, .f32⟩
  | .hbm, ⟨15, _⟩ => ⟨S1024x512, .f32⟩
  | .hbm, ⟨16, _⟩ => ⟨S1024x256, .f32⟩
  | .hbm, ⟨17, _⟩ => ⟨S1024x2304, .f32⟩
  | .hbm, ⟨18, _⟩ => ⟨S1024x2304, .bf16⟩
  | .hbm, ⟨19, _⟩ => ⟨S33792x1024, .f32⟩
  | .hbm, ⟨20, _⟩ => ⟨S1x1024, .f32⟩
  | .hbm, ⟨21, _⟩ => ⟨S33792x2048, .f32⟩
  | .hbm, ⟨22, _⟩ => ⟨S33792x1664, .f32⟩
  | .hbm, ⟨23, _⟩ => ⟨S33792x2304, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2048, .bf16⟩
  | .local _ .vmem, ⟨4, _⟩ => ⟨S1024x1664, .bf16⟩
  | .local _ .vmem, ⟨5, _⟩ => ⟨S1024x2304, .bf16⟩
  | .local _ .vmem, ⟨6, _⟩ => ⟨S256x2048, .f32⟩
  | .local _ .vmem, ⟨7, _⟩ => ⟨S256x2048, .f32⟩
  | .local _ .vmem, ⟨8, _⟩ => ⟨S256x1664, .f32⟩
  | .local _ .vmem, ⟨9, _⟩ => ⟨S256x1664, .f32⟩
  | .local _ .vmem, ⟨10, _⟩ => ⟨S256x2304, .f32⟩
  | .local _ .vmem, ⟨11, _⟩ => ⟨S256x2304, .f32⟩
  | _, _ => ⟨S2x16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15_0 : Ref sig .tc := ⟨.hbm, 21, rfl⟩
abbrev main_v15_1 : Ref sig .tc := ⟨.hbm, 22, rfl⟩
abbrev main_v15_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![132], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1664 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2304 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1664 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2304 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InProjRefIdeal.lean ====
abbrev S2x16400x1024 : Shape := ⟨3, ![2, 16400, 1024]⟩
abbrev S1024 : Shape := ⟨1, ![1024]⟩
abbrev S1024x5920 : Shape := ⟨2, ![1024, 5920]⟩
abbrev S_ : Shape := ⟨0, ![]⟩
abbrev S2x16400 : Shape := ⟨2, ![2, 16400]⟩
abbrev S2x16400x1 : Shape := ⟨3, ![2, 16400, 1]⟩
abbrev S1x1x1024 : Shape := ⟨3, ![1, 1, 1024]⟩
abbrev S1024x2048 : Shape := ⟨2, ![1024, 2048]⟩
abbrev S2x16400x2048 : Shape := ⟨3, ![2, 16400, 2048]⟩
abbrev S1024x1568 : Shape := ⟨2, ![1024, 1568]⟩
abbrev S2x16400x1568 : Shape := ⟨3, ![2, 16400, 1568]⟩
abbrev S1024x2304 : Shape := ⟨2, ![1024, 2304]⟩
abbrev S2x16400x2304 : Shape := ⟨3, ![2, 16400, 2304]⟩
abbrev S2x16400x1664 : Shape := ⟨3, ![2, 16400, 1664]⟩
abbrev S2x16400x1536 : Shape := ⟨3, ![2, 16400, 1536]⟩
abbrev S2x16400x512 : Shape := ⟨3, ![2, 16400, 512]⟩
abbrev S2x16400x256 : Shape := ⟨3, ![2, 16400, 256]⟩
abbrev S2x16896x2048 : Shape := ⟨3, ![2, 16896, 2048]⟩
abbrev S33792x2048 : Shape := ⟨2, ![33792, 2048]⟩
abbrev S2x16896x1664 : Shape := ⟨3, ![2, 16896, 1664]⟩
abbrev S33792x1664 : Shape := ⟨2, ![33792, 1664]⟩
abbrev S2x16896x2304 : Shape := ⟨3, ![2, 16896, 2304]⟩
abbrev S33792x2304 : Shape := ⟨2, ![33792, 2304]⟩

abbrev nBuf : Space → Nat
  | .hbm => 44
  | .vmem => 0
  | .smem => 0
  | _ => 0

abbrev bufTy : (tb : Table) → Fin (tcTables nBuf tb) → BufTy
  | .hbm, ⟨0, _⟩ => ⟨S2x16400x1024, .f32⟩
  | .hbm, ⟨1, _⟩ => ⟨S1024, .f32⟩
  | .hbm, ⟨2, _⟩ => ⟨S1024x5920, .f32⟩
  | .hbm, ⟨3, _⟩ => ⟨S2x16400x1024, .f32⟩
  | .hbm, ⟨4, _⟩ => ⟨S_, .f32⟩
  | .hbm, ⟨5, _⟩ => ⟨S2x16400, .f32⟩
  | .hbm, ⟨6, _⟩ => ⟨S2x16400x1, .f32⟩
  | .hbm, ⟨7, _⟩ => ⟨S_, .f32⟩
  | .hbm, ⟨8, _⟩ => ⟨S2x16400x1, .f32⟩
  | .hbm, ⟨9, _⟩ => ⟨S2x16400x1, .f32⟩
  | .hbm, ⟨10, _⟩ => ⟨S_, .f32⟩
  | .hbm, ⟨11, _⟩ => ⟨S2x16400x1, .f32⟩
  | .hbm, ⟨12, _⟩ => ⟨S2x16400x1, .f32⟩
  | .hbm, ⟨13, _⟩ => ⟨S2x16400x1, .f32⟩
  | .hbm, ⟨14, _⟩ => ⟨S2x16400x1024, .f32⟩
  | .hbm, ⟨15, _⟩ => ⟨S2x16400x1024, .f32⟩
  | .hbm, ⟨16, _⟩ => ⟨S1x1x1024, .f32⟩
  | .hbm, ⟨17, _⟩ => ⟨S2x16400x1024, .f32⟩
  | .hbm, ⟨18, _⟩ => ⟨S2x16400x1024, .f32⟩
  | .hbm, ⟨19, _⟩ => ⟨S1024x2048, .f32⟩
  | .hbm, ⟨20, _⟩ => ⟨S2x16400x2048, .f32⟩
  | .hbm, ⟨21, _⟩ => ⟨S1024x1568, .f32⟩
  | .hbm, ⟨22, _⟩ => ⟨S2x16400x1568, .f32⟩
  | .hbm, ⟨23, _⟩ => ⟨S1024x2304, .f32⟩
  | .hbm, ⟨24, _⟩ => ⟨S2x16400x2304, .f32⟩
  | .hbm, ⟨25, _⟩ => ⟨S_, .i32⟩
  | .hbm, ⟨26, _⟩ => ⟨S_, .f32⟩
  | .hbm, ⟨27, _⟩ => ⟨S2x16400x1664, .f32⟩
  | .hbm, ⟨28, _⟩ => ⟨S2x16400x1536, .f32⟩
  | .hbm, ⟨29, _⟩ => ⟨S2x16400x512, .f32⟩
  | .hbm, ⟨30, _⟩ => ⟨S2x16400x256, .f32⟩
  | .hbm, ⟨31, _⟩ => ⟨S2x16400x2304, .f32⟩
  | .hbm, ⟨32, _⟩ => ⟨S_, .i32⟩
  | .hbm, ⟨33, _⟩ => ⟨S_, .f32⟩
  | .hbm, ⟨34, _⟩ => ⟨S2x16896x2048, .f32⟩
  | .hbm, ⟨35, _⟩ => ⟨S33792x2048, .f32⟩
  | .hbm, ⟨36, _⟩ => ⟨S_, .i32⟩
  | .hbm, ⟨37, _⟩ => ⟨S_, .f32⟩
  | .hbm, ⟨38, _⟩ => ⟨S2x16896x1664, .f32⟩
  | .hbm, ⟨39, _⟩ => ⟨S33792x1664, .f32⟩
  | .hbm, ⟨40, _⟩ => ⟨S_, .i32⟩
  | .hbm, ⟨41, _⟩ => ⟨S_, .f32⟩
  | .hbm, ⟨42, _⟩ => ⟨S2x16896x2304, .f32⟩
  | .hbm, ⟨43, _⟩ => ⟨S33792x2304, .f32⟩
  | _, _ => ⟨S2x16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_2 : Ref sig .tc := ⟨.hbm, 32, rfl⟩
abbrev main_call1_v0 : Ref sig .tc := ⟨.hbm, 33, rfl⟩
abbrev main_v24 : Ref sig .tc := ⟨.hbm, 34, rfl⟩
abbrev main_v25 : Ref sig .tc := ⟨.hbm, 35, rfl⟩
abbrev main_c_3 : Ref sig .tc := ⟨.hbm, 36, rfl⟩
abbrev main_call2_v0 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_call3_v0 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== OutProj.lean ====
abbrev S2x16400x1024 : Shape := ⟨3, ![2, 16400, 1024]⟩
abbrev S2x16400x512 : Shape := ⟨3, ![2, 16400, 512]⟩
abbrev S2x16400x1568 : Shape := ⟨3, ![2, 16400, 1568]⟩
abbrev S2x16400x2304 : Shape := ⟨3, ![2, 16400, 2304]⟩
abbrev S1536x1024 : Shape := ⟨2, ![1536, 1024]⟩
abbrev S128 : Shape := ⟨1, ![128]⟩
abbrev S512 : Shape := ⟨1, ![512]⟩
abbrev S1024 : Shape := ⟨1, ![1024]⟩
abbrev S_ : Shape := ⟨0, ![]⟩
abbrev S2x16400x1664 : Shape := ⟨3, ![2, 16400, 1664]⟩
abbrev S2x16400x1536 : Shape := ⟨3, ![2, 16400, 1536]⟩
abbrev S2x16400x256 : Shape := ⟨3, ![2, 16400, 256]⟩
abbrev S8x64 : Shape := ⟨2, ![8, 64]⟩
abbrev S512x1 : Shape := ⟨2, ![512, 1]⟩
abbrev S1x512 : Shape := ⟨2, ![1, 512]⟩
abbrev S512x512 : Shape := ⟨2, ![512, 512]⟩
abbrev S2x496x1024 : Shape := ⟨3, ![2, 496, 1024]⟩
abbrev S2x16896x1024 : Shape := ⟨3, ![2, 16896, 1024]⟩
abbrev S2x496x512 : Shape := ⟨3, ![2, 496, 512]⟩
abbrev S2x16896x512 : Shape := ⟨3, ![2, 16896, 512]⟩
abbrev S2x496x1664 : Shape := ⟨3, ![2, 496, 1664]⟩
abbrev S2x16896x1664 : Shape := ⟨3, ![2, 16896, 1664]⟩
abbrev S2x496x2304 : Shape := ⟨3, ![2, 496, 2304]⟩
abbrev S2x16896x2304 : Shape := ⟨3, ![2, 16896, 2304]⟩
abbrev S1x128 : Shape := ⟨2, ![1, 128]⟩
abbrev S1x1024 : Shape := ⟨2, ![1, 1024]⟩
abbrev S2x16384x1024 : Shape := ⟨3, ![2, 16384, 1024]⟩
abbrev S1x512x1024 : Shape := ⟨3, ![1, 512, 1024]⟩
abbrev S1x512x512 : Shape := ⟨3, ![1, 512, 512]⟩
abbrev S512x128 : Shape := ⟨2, ![512, 128]⟩
abbrev S512x1536 : Shape := ⟨2, ![512, 1536]⟩
abbrev S512x1024 : Shape := ⟨2, ![512, 1024]⟩

abbrev nBuf : Space → Nat
  | .hbm => 66
  | .vmem => 26
  | .smem => 0
  | _ => 0

abbrev bufTy : (tb : Table) → Fin (tcTables nBuf tb) → BufTy
  | .hbm, ⟨0, _⟩ => ⟨S2x16400x1024, .f32⟩
  | .hbm, ⟨1, _⟩ => ⟨S2x16400x512, .f32⟩
  | .hbm, ⟨2, _⟩ => ⟨S2x16400x512, .f32⟩
  | .hbm, ⟨3, _⟩ => ⟨S2x16400x512, .f32⟩
  | .hbm, ⟨4, _⟩ => ⟨S2x16400x1568, .f32⟩
  | .hbm, ⟨5, _⟩ => ⟨S2x16400x512, .f32⟩
  | .hbm, ⟨6, _⟩ => ⟨S2x16400x512, .f32⟩
  | .hbm, ⟨7, _⟩ => ⟨S2x16400x512, .f32⟩
  | .hbm, ⟨8, _⟩ => ⟨S2x16400x2304, .f32⟩
  | .hbm, ⟨9, _⟩ => ⟨S1536x1024, .f32⟩
  | .hbm, ⟨10, _⟩ => ⟨S128, .f32⟩
  | .hbm, ⟨11, _⟩ => ⟨S512, .f32⟩
  | .hbm, ⟨12, _⟩ => ⟨S512, .f32⟩
  | .hbm, ⟨13, _⟩ => ⟨S1024, .f32⟩
  | .hbm, ⟨14, _⟩ => ⟨S_, .i32⟩
  | .hbm, ⟨15, _⟩ => ⟨S_, .f32⟩
  | .hbm, ⟨16, _⟩ => ⟨S2x16400x1664, .f32⟩
  | .hbm, ⟨17, _⟩ => ⟨S2x16400x1536, .f32⟩
  | .hbm, ⟨18, _⟩ => ⟨S2x16400x512, .f32⟩
  | .hbm, ⟨19, _⟩ => ⟨S2x16400x256, .f32⟩
  | .hbm, ⟨20, _⟩ => ⟨S2x16400x2304, .f32⟩
  | .hbm, ⟨21, _⟩ => ⟨S8x64, .i32⟩
  | .hbm, ⟨22, _⟩ => ⟨S512, .i32⟩
  | .hbm, ⟨23, _⟩ => ⟨S512x1, .i32⟩
  | .hbm, ⟨24, _⟩ => ⟨S1x512, .i32⟩
  | .hbm, ⟨25, _⟩ => ⟨S512x512, .i32⟩
  | .hbm, ⟨26, _⟩ => ⟨S512x512, .i32⟩
  | .hbm, ⟨27, _⟩ => ⟨S512x512, .i1⟩
  | .hbm, ⟨28, _⟩ => ⟨S512x512, .f32⟩
  | .hbm, ⟨29, _⟩ => ⟨S_, .f32⟩
  | .hbm, ⟨30, _⟩ => ⟨S512x512, .f32⟩
  | .hbm, ⟨31, _⟩ => ⟨S512x512, .f32⟩
  | .hbm, ⟨32, _⟩ => ⟨S512x512, .bf16⟩
  | .hbm, ⟨33, _⟩ => ⟨S_, .f32⟩
  | .hbm, ⟨34, _⟩ => ⟨S2x496x1024, .f32⟩
  | .hbm, ⟨35, _⟩ => ⟨S2x16896x1024, .f32⟩
  | .hbm, ⟨36, _⟩ => ⟨S_, .f32⟩
  | .hbm, ⟨37, _⟩ => ⟨S2x496x512, .f32⟩
  | .hbm, ⟨38, _⟩ => ⟨S2x16896x512, .f32⟩
  | .hbm, ⟨39, _⟩ => ⟨S_, .f32⟩
  | .hbm, ⟨40, _⟩ => ⟨S2x496x512, .f32⟩
  | .hbm, ⟨41, _⟩ => ⟨S2x16896x512, .f32⟩
  | .hbm, ⟨42, _⟩ => ⟨S_, .f32⟩
  | .hbm, ⟨43, _⟩ => ⟨S2x496x512, .f32⟩
  | .hbm, ⟨44, _⟩ => ⟨S2x16896x512, .f32⟩
  | .hbm, ⟨45, _⟩ => ⟨S_, .f32⟩
  | .hbm, ⟨46, _⟩ => ⟨S2x496x1664, .f32⟩
  | .hbm, ⟨47, _⟩ => ⟨S2x16896x1664, .f32⟩
  | .hbm, ⟨48, _⟩ => ⟨S_, .f32⟩
  | .hbm, ⟨49, _⟩ => ⟨S2x496x512, .f32⟩
  | .hbm, ⟨50, _⟩ => ⟨S2x16896x512, .f32⟩
  | .hbm, ⟨51, _⟩ => ⟨S_, .f32⟩
  | .hbm, ⟨52, _⟩ => ⟨S2x496x512, .f32⟩
  | .hbm, ⟨53, _⟩ => ⟨S2x16896x512, .f32⟩
  | .hbm, ⟨54, _⟩ => ⟨S_, .f32⟩
  | .hbm, ⟨55, _⟩ => ⟨S2x496x512, .f32⟩
  | .hbm, ⟨56, _⟩ => ⟨S2x16896x512, .f32⟩
  | .hbm, ⟨57, _⟩ => ⟨S_, .f32⟩
  | .hbm, ⟨58, _⟩ => ⟨S2x496x2304, .f32⟩
  | .hbm, ⟨59, _⟩ => ⟨S2x16896x2304, .f32⟩
  | .hbm, ⟨60, _⟩ => ⟨S1536x1024, .bf16⟩
  | .hbm, ⟨61, _⟩ => ⟨S1x128, .f32⟩
  | .hbm, ⟨62, _⟩ => ⟨S1x512, .f32⟩
  | .hbm, ⟨63, _⟩ => ⟨S1x512, .f32⟩
  | .hbm, ⟨64, _⟩ => ⟨S1x1024, .f32⟩
  | .hbm, ⟨65, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | .local _ .vmem, ⟨18, _⟩ => ⟨S1536x1024, .bf16⟩
  | .local _ .vmem, ⟨19, _⟩ => ⟨S1x128, .f32⟩
  | .local _ .vmem, ⟨20, _⟩ => ⟨S512x512, .bf16⟩
  | .local _ .vmem, ⟨21, _⟩ => ⟨S1x512, .f32⟩
  | .local _ .vmem, ⟨22, _⟩ => ⟨S1x512, .f32⟩
  | .local _ .vmem, ⟨23, _⟩ => ⟨S1x1024, .f32⟩
  | .local _ .vmem, ⟨24, _⟩ => ⟨S1x512x1024, .f32⟩
  | .local _ .vmem, ⟨25, _⟩ => ⟨S1x512x1024, .f32⟩
  | _, _ => ⟨S2x16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_call0_v0 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_0 : Ref sig .tc := ⟨.hbm, 33, rfl⟩
abbrev main_v16 : Ref sig .tc := ⟨.hbm, 34, rfl⟩
abbrev main_v17 : Ref sig .tc := ⟨.hbm, 35, rfl⟩
abbrev main_cst_1 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_cst_4 : Ref sig .tc := ⟨.hbm, 45, rfl⟩
abbrev main_v24 : Ref sig .tc := ⟨.hbm, 46, rfl⟩
abbrev main_v25 : Ref sig .tc := ⟨.hbm, 47, rfl⟩
abbrev main_cst_5 : Ref sig .tc := ⟨.hbm, 48, rfl⟩
abbrev main_v26 : Ref sig .tc := ⟨.hbm, 49, rfl⟩
abbrev main_v27 : Ref sig .tc := ⟨.hbm, 50, rfl⟩
abbrev main_cst_6 : Ref sig .tc := ⟨.hbm, 51, rfl⟩
abbrev main_v28 : Ref sig .tc := ⟨.hbm, 52, rfl⟩
abbrev main_v29 : Ref sig .tc := ⟨.hbm, 53, rfl⟩
abbrev main_cst_7 : Ref sig .tc := ⟨.hbm, 54, rfl⟩
abbrev main_v30 : Ref sig .tc := ⟨.hbm, 55, rfl⟩
abbrev main_v31 : Ref sig .tc := ⟨.hbm, 56, rfl⟩
abbrev main_cst_8 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c2_i32 : BitVec 32 := 2#32
  let c0_i32 : BitVec 32 := 0#32
  ![arg0.toNat, v0.toNat, c2_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c3_i32 : BitVec 32 := 3#32
  let c0_i32 : BitVec 32 := 0#32
  ![arg0.toNat, v0.toNat, c3_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1536x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== OutProjRefIdeal.lean ====
abbrev S2x16400x1024 : Shape := ⟨3, ![2, 16400, 1024]⟩
abbrev S2x16400x512 : Shape := ⟨3, ![2, 16400, 512]⟩
abbrev S2x16400x1568 : Shape := ⟨3, ![2, 16400, 1568]⟩
abbrev S2x16400x2304 : Shape := ⟨3, ![2, 16400, 2304]⟩
abbrev S1536x1024 : Shape := ⟨2, ![1536, 1024]⟩
abbrev S128 : Shape := ⟨1, ![128]⟩
abbrev S512 : Shape := ⟨1, ![512]⟩
abbrev S1024 : Shape := ⟨1, ![1024]⟩
abbrev S2x16400x4x128 : Shape := ⟨4, ![2, 16400, 4, 128]⟩
abbrev S_ : Shape := ⟨0, ![]⟩
abbrev S2x16400x4 : Shape := ⟨3, ![2, 16400, 4]⟩
abbrev S2x16400x4x1 : Shape := ⟨4, ![2, 16400, 4, 1]⟩
abbrev S1x1x1x128 : Shape := ⟨4, ![1, 1, 1, 128]⟩
abbrev S2x16400x8x64 : Shape := ⟨4, ![2, 16400, 8, 64]⟩
abbrev S2x16400x8 : Shape := ⟨3, ![2, 16400, 8]⟩
abbrev S2x16400x8x1 : Shape := ⟨4, ![2, 16400, 8, 1]⟩
abbrev S1x1x512 : Shape := ⟨3, ![1, 1, 512]⟩
abbrev S2x16400x1536 : Shape := ⟨3, ![2, 16400, 1536]⟩
abbrev S2x16400 : Shape := ⟨2, ![2, 16400]⟩
abbrev S2x16400x1 : Shape := ⟨3, ![2, 16400, 1]⟩
abbrev S1x1x1024 : Shape := ⟨3, ![1, 1, 1024]⟩
abbrev S2x16384x1024 : Shape := ⟨3, ![2, 16384, 1024]⟩

abbrev nBuf : Space → Nat
  | .hbm => 108
  | .vmem => 0
  | .smem => 0
  | _ => 0

abbrev bufTy : (tb : Table) → Fin (tcTables nBuf tb) → BufTy
  | .hbm, ⟨0, _⟩ => ⟨S2x16400x1024, .f32⟩
  | .hbm, ⟨1, _⟩ => ⟨S2x16400x512, .f32⟩
  | .hbm, ⟨2, _⟩ => ⟨S2x16400x512, .f32⟩
  | .hbm, ⟨3, _⟩ => ⟨S2x16400x512, .f32⟩
  | .hbm, ⟨4, _⟩ => ⟨S2x16400x1568, .f32⟩
  | .hbm, ⟨5, _⟩ => ⟨S2x16400x512, .f32⟩
  | .hbm, ⟨6, _⟩ => ⟨S2x16400x512, .f32⟩
  | .hbm, ⟨7, _⟩ => ⟨S2x16400x512, .f32⟩
  | .hbm, ⟨8, _⟩ => ⟨S2x16400x2304, .f32⟩
  | .hbm, ⟨9, _⟩ => ⟨S1536x1024, .f32⟩
  | .hbm, ⟨10, _⟩ => ⟨S128, .f32⟩
  | .hbm, ⟨11, _⟩ => ⟨S512, .f32⟩
  | .hbm, ⟨12, _⟩ => ⟨S512, .f32⟩
  | .hbm, ⟨13, _⟩ => ⟨S1024, .f32⟩
  | .hbm, ⟨14, _⟩ => ⟨S2x16400x512, .f32⟩
  | .hbm, ⟨15, _⟩ => ⟨S2x16400x4x128, .f32⟩
  | .hbm, ⟨16, _⟩ => ⟨S2x16400x4x128, .f32⟩
  | .hbm, ⟨17, _⟩ => ⟨S_, .f32⟩
  | .hbm, ⟨18, _⟩ => ⟨S2x16400x4, .f32⟩
  | .hbm, ⟨19, _⟩ => ⟨S2x16400x4x1, .f32⟩
  | .hbm, ⟨20, _⟩ => ⟨S_, .f32⟩
  | .hbm, ⟨21, _⟩ => ⟨S2x16400x4x1, .f32⟩
  | .hbm, ⟨22, _⟩ => ⟨S2x16400x4x1, .f32⟩
  | .hbm, ⟨23, _⟩ => ⟨S_, .f32⟩
  | .hbm, ⟨24, _⟩ => ⟨S2x16400x4x1, .f32⟩
  | .hbm, ⟨25, _⟩ => ⟨S2x16400x4x1, .f32⟩
  | .hbm, ⟨26, _⟩ => ⟨S2x16400x4x1, .f32⟩
  | .hbm, ⟨27, _⟩ => ⟨S2x16400x4x128, .f32⟩
  | .hbm, ⟨28, _⟩ => ⟨S2x16400x4x128, .f32⟩
  | .hbm, ⟨29, _⟩ => ⟨S1x1x1x128, .f32⟩
  | .hbm, ⟨30, _⟩ => ⟨S2x16400x4x128, .f32⟩
  | .hbm, ⟨31, _⟩ => ⟨S2x16400x4x128, .f32⟩
  | .hbm, ⟨32, _⟩ => ⟨S2x16400x512, .f32⟩
  | .hbm, ⟨33, _⟩ => ⟨S2x16400x512, .f32⟩
  | .hbm, ⟨34, _⟩ => ⟨S2x16400x512, .f32⟩
  | .hbm, ⟨35, _⟩ => ⟨S2x16400x512, .f32⟩
  | .hbm, ⟨36, _⟩ => ⟨S_, .f32⟩
  | .hbm, ⟨37, _⟩ => ⟨S2x16400x512, .f32⟩
  | .hbm, ⟨38, _⟩ => ⟨S2x16400x512, .f32⟩
  | .hbm, ⟨39, _⟩ => ⟨S_, .f32⟩
  | .hbm, ⟨40, _⟩ => ⟨S2x16400x512, .f32⟩
  | .hbm, ⟨41, _⟩ => ⟨S2x16400x512, .f32⟩
  | .hbm, ⟨42, _⟩ => ⟨S2x16400x512, .f32⟩
  | .hbm, ⟨43, _⟩ => ⟨S2x16400x512, .f32⟩
  | .hbm, ⟨44, _⟩ => ⟨S2x16400x512, .f32⟩
  | .hbm, ⟨45, _⟩ => ⟨S2x16400x8x64, .f32⟩
  | .hbm, ⟨46, _⟩ => ⟨S_, .f32⟩
  | .hbm, ⟨47, _⟩ => ⟨S2x16400x8, .f32⟩
  | .hbm, ⟨48, _⟩ => ⟨S2x16400x8x1, .f32⟩
  | .hbm, ⟨49, _⟩ => ⟨S_, .f32⟩
  | .hbm, ⟨50, _⟩ => ⟨S2x16400x8x1, .f32⟩
  | .hbm, ⟨51, _⟩ => ⟨S2x16400x8x1, .f32⟩
  | .hbm, ⟨52, _⟩ => ⟨S2x16400x8x64, .f32⟩
  | .hbm, ⟨53, _⟩ => ⟨S2x16400x8x64, .f32⟩
  | .hbm, ⟨54, _⟩ => ⟨S2x16400x8x64, .f32⟩
  | .hbm, ⟨55, _⟩ => ⟨S_, .f32⟩
  | .hbm, ⟨56, _⟩ => ⟨S2x16400x8, .f32⟩
  | .hbm, ⟨57, _⟩ => ⟨S2x16400x8x1, .f32⟩
  | .hbm, ⟨58, _⟩ => ⟨S_, .f32⟩
  | .hbm, ⟨59, _⟩ => ⟨S2x16400x8x1, .f32⟩
  | .hbm, ⟨60, _⟩ => ⟨S2x16400x8x1, .f32⟩
  | .hbm, ⟨61, _⟩ => ⟨S2x16400x8x64, .f32⟩
  | .hbm, ⟨62, _⟩ => ⟨S2x16400x8x64, .f32⟩
  | .hbm, ⟨63, _⟩ => ⟨S_, .f32⟩
  | .hbm, ⟨64, _⟩ => ⟨S2x16400x8x1, .f32⟩
  | .hbm, ⟨65, _⟩ => ⟨S2x16400x8x1, .f32⟩
  | .hbm, ⟨66, _⟩ => ⟨S2x16400x8x1, .f32⟩
  | .hbm, ⟨67, _⟩ => ⟨S2x16400x8x64, .f32⟩
  | .hbm, ⟨68, _⟩ => ⟨S2x16400x8x64, .f32⟩
  | .hbm, ⟨69, _⟩ => ⟨S2x16400x512, .f32⟩
  | .hbm, ⟨70, _⟩ => ⟨S1x1x512, .f32⟩
  | .hbm, ⟨71, _⟩ => ⟨S2x16400x512, .f32⟩
  | .hbm, ⟨72, _⟩ => ⟨S2x16400x512, .f32⟩
  | .hbm, ⟨73, _⟩ => ⟨S1x1x512, .f32⟩
  | .hbm, ⟨74, _⟩ => ⟨S2x16400x512, .f32⟩
  | .hbm, ⟨75, _⟩ => ⟨S2x16400x512, .f32⟩
  | .hbm, ⟨76, _⟩ => ⟨S2x16400x512, .f32⟩
  | .hbm, ⟨77, _⟩ => ⟨S2x16400x512, .f32⟩
  | .hbm, ⟨78, _⟩ => ⟨S2x16400x512, .f32⟩
  | .hbm, ⟨79, _⟩ => ⟨S2x16400x512, .f32⟩
  | .hbm, ⟨80, _⟩ => ⟨S_, .f32⟩
  | .hbm, ⟨81, _⟩ => ⟨S2x16400x512, .f32⟩
  | .hbm, ⟨82, _⟩ => ⟨S2x16400x512, .f32⟩
  | .hbm, ⟨83, _⟩ => ⟨S_, .f32⟩
  | .hbm, ⟨84, _⟩ => ⟨S2x16400x512, .f32⟩
  | .hbm, ⟨85, _⟩ => ⟨S2x16400x512, .f32⟩
  | .hbm, ⟨86, _⟩ => ⟨S2x16400x512, .f32⟩
  | .hbm, ⟨87, _⟩ => ⟨S2x16400x512, .f32⟩
  | .hbm, ⟨88, _⟩ => ⟨S2x16400x1536, .f32⟩
  | .hbm, ⟨89, _⟩ => ⟨S2x16400x1024, .f32⟩
  | .hbm, ⟨90, _⟩ => ⟨S2x16400x1024, .f32⟩
  | .hbm, ⟨91, _⟩ => ⟨S2x16400x1024, .f32⟩
  | .hbm, ⟨92, _⟩ => ⟨S_, .f32⟩
  | .hbm, ⟨93, _⟩ => ⟨S2x16400, .f32⟩
  | .hbm, ⟨94, _⟩ => ⟨S2x16400x1, .f32⟩
  | .hbm, ⟨95, _⟩ => ⟨S_, .f32⟩
  | .hbm, ⟨96, _⟩ => ⟨S2x16400x1, .f32⟩
  | .hbm, ⟨97, _⟩ => ⟨S2x16400x1, .f32⟩
  | .hbm, ⟨98, _⟩ => ⟨S_, .f32⟩
  | .hbm, ⟨99, _⟩ => ⟨S2x16400x1, .f32⟩
  | .hbm, ⟨100, _⟩ => ⟨S2x16400x1, .f32⟩
  | .hbm, ⟨101, _⟩ => ⟨S2x16400x1, .f32⟩
  | .hbm, ⟨102, _⟩ => ⟨S2x16400x1024, .f32⟩
  | .hbm, ⟨103, _⟩ => ⟨S2x16400x1024, .f32⟩
  | .hbm, ⟨104, _⟩ => ⟨S1x1x1024, .f32⟩
  | .hbm, ⟨105, _⟩ => ⟨S2x16400x1024, .f32⟩
  | .hbm, ⟨106, _⟩ => ⟨S2x16400x1024, .f32⟩
  | .hbm, ⟨107, _⟩ => ⟨S2x16384x1024, .f32⟩
  | _, _ => ⟨S2x16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst_2 : Ref sig .tc := ⟨.hbm, 46, rfl⟩
abbrev main_v21 : Ref sig .tc := ⟨.hbm, 47, rfl⟩
abbrev main_v22 : Ref sig .tc := ⟨.hbm, 48, rfl⟩
abbrev main_cst_3 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_4 : Ref sig .tc := ⟨.hbm, 55, rfl⟩
abbrev main_v28 : Ref sig .tc := ⟨.hbm, 56, rfl⟩
abbrev main_v29 : Ref sig .tc := ⟨.hbm, 57, rfl⟩
abbrev main_cst_5 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_6 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_call1_v0 : Ref sig .tc := ⟨.hbm, 78, rfl⟩
abbrev main_call1_v1 : Ref sig .tc := ⟨.hbm, 79, rfl⟩
abbrev main_call1_cst : Ref sig .tc := ⟨.hbm, 80, rfl⟩
abbrev main_call1_v2 : Ref sig .tc := ⟨.hbm, 81, rfl⟩
abbrev main_call1_v3 : Ref sig .tc := ⟨.hbm, 82, rfl⟩
abbrev main_call1_cst_0 : Ref sig .tc := ⟨.hbm, 83, rfl⟩
abbrev main_call1_v4 : Ref sig .tc := ⟨.hbm, 84, rfl⟩
abbrev main_call1_v5 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_cst_7 : Ref sig .tc := ⟨.hbm, 92, rfl⟩
abbrev main_v54 : Ref sig .tc := ⟨.hbm, 93, rfl⟩
abbrev main_v55 : Ref sig .tc := ⟨.hbm, 94, rfl⟩
abbrev main_cst_8 : Ref sig .tc := ⟨.hbm, 95, rfl⟩
abbrev main_v56 : Ref sig .tc := ⟨.hbm, 96, rfl⟩
abbrev main_v57 : Ref sig .tc := ⟨.hbm, 97, rfl⟩
abbrev main_cst_9 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩

abbrev nD : Nat := 1
abbrev τ : Topo := Topo.v7x

variable {F : FTy → Type} [FloatOps F]
-- ==== Proof.Model.lean ====
/-
  The gated linear attention of one chunk of 64 tokens over the real numbers, and the recurrence over the chunks.
-/
module

public import Idealize.ShloMosaic.PureOps.Ideal
public import Mathlib.Analysis.SpecialFunctions.Log.Basic
public import Mathlib.Analysis.SpecialFunctions.Exp

@[expose] public section

noncomputable section

namespace Cert.Gla

open scoped BigOperators

/-- The logarithm of the sigmoid of `x`, in the form that never exponentiates a positive number. -/
def logSig (x : ℝ) : ℝ := min x 0 - Real.log (1 + Real.exp (-|x|))

/-- What one chunk of 64 tokens brings: scaled queries, keys, values and the logarithms of the gates, all heads side by side. -/
structure Chunk where
  q : Fin 64 → Fin 256 → ℝ
  k : Fin 64 → Fin 256 → ℝ
  v : Fin 64 → Fin 512 → ℝ
  g : Fin 64 → Fin 256 → ℝ

/-- Column of the key feature `x` of head `h`. -/
def hk (h : Fin 4) (x : Fin 64) : Fin 256 := ⟨64 * h.val + x.val, by omega⟩

/-- Column of the value feature `y` of head `h`. -/
def hv (h : Fin 4) (y : Fin 128) : Fin 512 := ⟨128 * h.val + y.val, by omega⟩

/-- A state: one matrix of key features by value features for each head. -/
abbrev State := Fin 4 → Fin 64 → Fin 128 → ℝ

variable (le : Fin 64 → Fin 64 → Bool) (C : Chunk)

/-- The gates' logarithms summed over the tokens that row `r` sees. -/
def cum (r : Fin 64) (c : Fin 256) : ℝ := ∑ j, if le r j then C.g j c else 0

/-- The gates' logarithms summed over the whole chunk. -/
def tot (c : Fin 256) : ℝ := ∑ j, C.g j c

/-- The query of row `r` with its decay. -/
def qe (r : Fin 64) (c : Fin 256) : ℝ := C.q r c * Real.exp (cum le C r c)

/-- The key of row `r` with its decay undone. -/
def ke (r : Fin 64) (c : Fin 256) : ℝ := C.k r c * Real.exp (-cum le C r c)

/-- The key of row `r` decayed to the chunk's end. -/
def kd (r : Fin 64) (c : Fin 256) : ℝ := ke le C r c * Real.exp (tot C c)

/-- The attention weight that row `r` of head `h` gives to row `j`. -/
def att (h : Fin 4) (r j : Fin 64) : ℝ := if le r j then ∑ x, qe le C r (hk h x) * ke le C j (hk h x) else 0

/-- The chunk's output at row `r`, from the state `S` that it finds. -/
def out (S : State) (h : Fin 4) (r : Fin 64) (y : Fin 128) : ℝ :=
  (∑ j, att le C h r j * C.v j (hv h y)) + ∑ x, qe le C r (hk h x) * S h x y

/-- The state that the chunk leaves, from the state `S` that it finds. -/
def next (S : State) : State := fun h x y =>
  S h x y * Real.exp (tot C (hk h x)) + ∑ j, C.v j (hv h y) * kd le C j (hk h x)

/-- The state before chunk `n` of a sequence of chunks, from the zero state. -/
def stateAt (chunks : ℕ → Chunk) : ℕ → State
  | 0 => fun _ _ _ => 0
  | n + 1 => next le (chunks n) (stateAt chunks n)

/-- Row `r` sees the rows up to its own. -/
def upTo (r j : Fin 64) : Bool := decide (j ≤ r)

/-- Row `r` sees the rows from its own on. -/
def fromOn (r j : Fin 64) : Bool := decide (r ≤ j)

/-- The chunk with its rows in the opposite order. -/
def Chunk.flip : Chunk where
  q r := C.q r.rev
  k r := C.k r.rev
  v r := C.v r.rev
  g r := C.g r.rev

theorem sum_rev {M : Type*} [AddCommMonoid M] (f : Fin 64 → M) : ∑ j, f (Fin.rev j) = ∑ j, f j :=
  Equiv.sum_comp Fin.revPerm f

theorem fromOn_rev (r j : Fin 64) : fromOn r (Fin.rev j) = upTo (Fin.rev r) j := by
  unfold fromOn upTo
  congr 1
  rw [Fin.le_def, Fin.le_def, Fin.val_rev, Fin.val_rev]
  apply propext
  omega

theorem tot_flip (c : Fin 256) : tot C.flip c = tot C c := by
  unfold tot
  exact sum_rev (fun j => C.g j c)

theorem cum_flip (r : Fin 64) (c : Fin 256) : cum fromOn C.flip r c = cum upTo C (Fin.rev r) c := by
  unfold cum
  rw [← sum_rev]
  refine Finset.sum_congr rfl fun j _ => ?_
  rw [fromOn_rev]
  simp only [Chunk.flip, Fin.rev_rev]

theorem qe_flip (r : Fin 64) (c : Fin 256) : qe fromOn C.flip r c = qe upTo C (Fin.rev r) c := by
  unfold qe; rw [cum_flip]; rfl

theorem ke_flip (r : Fin 64) (c : Fin 256) : ke fromOn C.flip r c = ke upTo C (Fin.rev r) c := by
  unfold ke; rw [cum_flip]; rfl

theorem kd_flip (r : Fin 64) (c : Fin 256) : kd fromOn C.flip r c = kd upTo C (Fin.rev r) c := by
  unfold kd; rw [ke_flip, tot_flip]

theorem att_flip (h : Fin 4) (r j : Fin 64) : att fromOn C.flip h r (Fin.rev j) = att upTo C h (Fin.rev r) j := by
  unfold att
  rw [fromOn_rev]
  simp only [qe_flip, ke_flip, Fin.rev_rev]

/-- Reading the rows in the opposite order, and seeing from a row on instead of up to it, gives the same output rows in the opposite order. -/
theorem out_flip (S : State) (h : Fin 4) (r : Fin 64) (y : Fin 128) :
    out fromOn C.flip S h r y = out upTo C S h (Fin.rev r) y := by
  unfold out
  congr 1
  · rw [← sum_rev]
    refine Finset.sum_congr rfl fun j _ => ?_
    rw [att_flip]
    simp only [Chunk.flip, Fin.rev_rev]
  · simp only [qe_flip]

/-- The state does not depend on the order in which the rows are read. -/
theorem next_flip (S : State) : next fromOn C.flip S = next upTo C S := by
  funext h x y
  unfold next
  rw [tot_flip]
  congr 1
  rw [← sum_rev]
  refine Finset.sum_congr rfl fun j _ => ?_
  rw [kd_flip]
  simp only [Chunk.flip, Fin.rev_rev]

/-- A row whose query is zero has a zero output. -/
theorem out_zero (S : State) (h : Fin 4) (r : Fin 64) (y : Fin 128) (hq : ∀ c, C.q r c = 0) : out le C S h r y = 0 := by
  unfold out att qe
  simp [hq]

end Cert.Gla

end
-- ==== Proof.Unit.lean ====
/-
  What each value of the kernel's body is on finite inputs: the coercion of a real expression of the inputs' reals.
-/
module

public import proofs.«01_k».proof.Proof.Gen.KernelIdeal.Skeleton
public import proofs.«01_k».proof.Proof.Model
public import Idealize.ShloMosaic.Lib.Pointwise

@[expose] public section

set_option maxRecDepth 16384

noncomputable section

namespace Cert.Gla

open Idealize.ShloMosaic

/-- A sum of real numbers, taken among the extended reals. -/
theorem coe_sum {n : ℕ} (f : Fin n → ℝ) : (∑ i, (f i : EReal)) = ((∑ i, f i : ℝ) : EReal) := by
  induction n with
  | zero => simp
  | succ n ih => rw [Fin.sum_univ_succ, Fin.sum_univ_succ, ih, EReal.coe_add]

theorem coe_if (p : Prop) [Decidable p] (a b : ℝ) : (if p then (a : EReal) else (b : EReal)) = ((if p then a else b : ℝ) : EReal) := by
  split <;> rfl

theorem coe_if_zero (p : Prop) [Decidable p] (a : ℝ) : (if p then (a : EReal) else 0) = ((if p then a else 0 : ℝ) : EReal) := by
  split <;> rfl

theorem coe_zero_if (p : Prop) [Decidable p] (a : ℝ) : (if p then 0 else (a : EReal)) = ((if p then 0 else a : ℝ) : EReal) := by
  split <;> rfl

theorem select_bool {α : Type} (b : Bool) (x y : α) : Scalar.select (BitVec.ofBool b) x y = if b then x else y := by
  cases b <;> rfl

theorem coe_sub_self (a : ℝ) : (a : EReal) - (a : EReal) = 0 := by
  rw [← EReal.coe_sub, sub_self]; rfl

theorem ofBits_eighth : Ideal.ofBits .f32 0x3E000000#32 = ((1 / 8 : ℝ) : EReal) := by
  simp [Ideal.ofBits, Ideal.ieee, -EReal.coe_mul]; norm_num

theorem ofBits_sixteen : Ideal.ofBits .f32 0x41800000#32 = ((16 : ℝ) : EReal) := by
  simp [Ideal.ofBits, Ideal.ieee, -EReal.coe_mul]; norm_num

/-- The logarithm of one plus an exponential, of real numbers. -/
theorem log_one_exp (a : ℝ) : Ideal.log (1 + Ideal.exp (a : EReal)) = ((Real.log (1 + Real.exp a) : ℝ) : EReal) := by
  have h : (1 : EReal) + Ideal.exp (a : EReal) = ((1 + Real.exp a : ℝ) : EReal) := by
    rw [Ideal.exp_coe, EReal.coe_add]; rfl
  rw [h, Ideal.log_coe, if_neg (not_le.mpr (by positivity))]

theorem div_sixteen (a : ℝ) : Ideal.div (a : EReal) ((16 : ℝ) : EReal) = ((a / 16 : ℝ) : EReal) := by
  rw [Ideal.div_coe (by norm_num), ← EReal.coe_mul]; congr 1; ring

end Cert.Gla

namespace Cert.KernelIdeal.Gla

open Idealize.ShloMosaic Cert.Gla
open Cert.KernelIdeal Cert.KernelIdeal.Gen

-- the block of the input's rows, the gates' factor and bias, and their reals
variable {z : Vec Ideal S1x64x1664 .f32} {u : Vec Ideal S1x128x256 .f32} {b : Vec Ideal S1x1x256 .f32}
variable {Z : Fin 64 → Fin 1664 → ℝ} {U : Fin 128 → Fin 256 → ℝ} {B : Fin 256 → ℝ}

theorem min_coe (a b : ℝ) : min (a : EReal) (b : EReal) = ((min a b : ℝ) : EReal) := (EReal.coe_strictMono.monotone.map_min).symm

theorem max_coe (a b : ℝ) : max (a : EReal) (b : EReal) = ((max a b : ℝ) : EReal) := (EReal.coe_strictMono.monotone.map_max).symm

theorem logits_at (hz : ∀ r c, z (ix3 0 r c) = (Z r c : EReal)) (hu : ∀ a c, u (ix3 0 a c) = (U a c : EReal))
    (hb : ∀ c, b (ix3 0 0 c) = (B c : EReal)) (r : Fin 64) (c : Fin 256) :
    k0_pay19 z u b (ix2 r c) = (((∑ x : Fin 128, Z r ⟨1536 + x.val, by omega⟩ * U x c) + B c : ℝ) : EReal) := by
  pointwise [k0_pay19, k0_pay15]
  simp only [hz, hu, hb, coe_sub_self, mul_zero, zero_mul, Finset.sum_const_zero, add_zero, ← EReal.coe_mul, coe_sum, ← EReal.coe_add]

theorem gate_at {lv : IVec S64x1 1} {live : Fin 64 → Bool} (hl : ∀ r, lv (ix2 r 0) = BitVec.ofBool (live r))
    (hz : ∀ r c, z (ix3 0 r c) = (Z r c : EReal)) (hu : ∀ a c, u (ix3 0 a c) = (U a c : EReal))
    (hb : ∀ c, b (ix3 0 0 c) = (B c : EReal)) (r : Fin 64) (c : Fin 256) :
    k0_pay23 lv (k0_pay20 z u b) (k0_pay21 z u b) k0_pay22 (ix2 r c)
      = ((if live r then logSig ((∑ x : Fin 128, Z r ⟨1536 + x.val, by omega⟩ * U x c) + B c) / 16 else 0 : ℝ) : EReal) := by
  pointwise [k0_pay23, k0_pay20, k0_pay21, k0_pay22]
  rw [logits_at hz hu hb, hl, select_bool, ofBits_sixteen]
  generalize (∑ x : Fin 128, Z r ⟨1536 + x.val, by omega⟩ * U x c) + B c = L
  have habs : FloatOps.absf (F := Ideal) (φ := .f32) (L : EReal) = ((|L| : ℝ) : EReal) := by
    show max (L : EReal) (-(L : EReal)) = _
    rw [← EReal.coe_neg, max_coe]; rfl
  have hmin : min (L : EReal) 0 = ((min L 0 : ℝ) : EReal) := min_coe L 0
  simp only [habs, hmin, zero_sub, ← EReal.coe_neg, log_one_exp, ← EReal.coe_sub, div_sixteen, coe_if_zero]
  rfl

section
variable {lv : IVec S64x1 1} {inc : IVec S64x64 1} {g1 g2 g3 : FVec Ideal S64x256 .f32} {q k : FVec Ideal S64x256 .f32}
variable {le : Fin 64 → Fin 64 → Bool} {C : Chunk}

theorem cum_at (hi : ∀ r j, inc (ix2 r j) = BitVec.ofBool (le r j))
    (hg : ∀ r c, k0_pay23 lv g1 g2 g3 (ix2 r c) = (C.g r c : EReal)) (r : Fin 64) (c : Fin 256) :
    k0_pay24 lv inc g1 g2 g3 (ix2 r c) = (cum le C r c : EReal) := by
  pointwise [k0_pay24]
  simp only [hg, coe_sub_self, mul_zero, Finset.sum_const_zero, add_zero, hi]
  unfold cum
  rw [← coe_sum]
  refine Finset.sum_congr rfl fun j _ => ?_
  have h0 : FloatOps.sitofp (F := Ideal) .f32 (0#32 : BitVec 32) = (0 : EReal) := by
    show (((0#32 : BitVec 32).toInt : ℝ) : EReal) = 0
    simp
  have h1 : FloatOps.sitofp (F := Ideal) .f32 (1#32 : BitVec 32) = (1 : EReal) := by
    show (((1#32 : BitVec 32).toInt : ℝ) : EReal) = 1
    simp
  cases le r j
  · show FloatOps.sitofp (F := Ideal) .f32 (0#32 : BitVec 32) * _ = _
    rw [h0, zero_mul]; rfl
  · show FloatOps.sitofp (F := Ideal) .f32 (1#32 : BitVec 32) * _ = _
    rw [h1, one_mul]; rfl

theorem dec_at (hg : ∀ r c, k0_pay23 lv g1 g2 g3 (ix2 r c) = (C.g r c : EReal)) (c : Fin 256) :
    k0_pay25 lv g1 g2 g3 (ix2 0 c) = (Real.exp (tot C c) : EReal) := by
  pointwise [k0_pay25]
  simp only [hg, coe_sum, Ideal.exp_coe]
  rfl

theorem qe_at (hi : ∀ r j, inc (ix2 r j) = BitVec.ofBool (le r j)) (hq : ∀ r c, q (ix2 r c) = (C.q r c : EReal))
    (hg : ∀ r c, k0_pay23 lv g1 g2 g3 (ix2 r c) = (C.g r c : EReal)) (r : Fin 64) (c : Fin 256) :
    k0_pay26 lv inc q g1 g2 g3 (ix2 r c) = (qe le C r c : EReal) := by
  pointwise [k0_pay26]
  rw [cum_at hi hg, hq, Ideal.exp_coe, ← EReal.coe_mul]
  rfl

theorem ke_at (hi : ∀ r j, inc (ix2 r j) = BitVec.ofBool (le r j)) (hk : ∀ r c, k (ix2 r c) = (C.k r c : EReal))
    (hg : ∀ r c, k0_pay23 lv g1 g2 g3 (ix2 r c) = (C.g r c : EReal)) (r : Fin 64) (c : Fin 256) :
    k0_pay29 lv inc k g1 g2 g3 (ix2 r c) = (ke le C r c : EReal) := by
  pointwise [k0_pay29, k0_pay27]
  rw [cum_at hi hg, hk, zero_sub, ← EReal.coe_neg, Ideal.exp_coe, ← EReal.coe_mul]
  rfl

theorem kd_at (hi : ∀ r j, inc (ix2 r j) = BitVec.ofBool (le r j)) (hk : ∀ r c, k (ix2 r c) = (C.k r c : EReal))
    (hg : ∀ r c, k0_pay23 lv g1 g2 g3 (ix2 r c) = (C.g r c : EReal)) (r : Fin 64) (c : Fin 256) :
    k0_pay28 lv inc k g1 g2 g3 (ix2 r c) = (kd le C r c : EReal) := by
  pointwise [k0_pay28, k0_pay27]
  rw [cum_at hi hg, hk, dec_at hg, zero_sub, ← EReal.coe_neg, Ideal.exp_coe, ← EReal.coe_mul, ← EReal.coe_mul]
  rfl

end

section
variable {inc2 : IVec S64x128 1} {q k v1 v2 a : FVec Ideal S64x128 .bf16} {st : Vec Ideal S1x256x128 .f32} {dec : FVec Ideal S1x128 .f32}
variable {le : Fin 64 → Fin 64 → Bool} {C : Chunk} {S : State} {p : Fin 2}

/-- Head `e` of pair `p`. -/
def hd (p e : Fin 2) : Fin 4 := ⟨2 * p.val + e.val, by omega⟩

/-- Lane of the key feature `x` of head `e` of a pair. -/
def lk (e : Fin 2) (x : Fin 64) : Fin 128 := ⟨64 * e.val + x.val, by omega⟩

/-- Column of the value feature `y` of head `e` of a pair. -/
def lv (e : Fin 2) (y : Fin 128) : Fin 256 := ⟨128 * e.val + y.val, by omega⟩

theorem sum_lanes (f : Fin 128 → EReal) : ∑ l, f l = (∑ x, f (lk 0 x)) + ∑ x, f (lk 1 x) := by
  rw [Fin.sum_univ_add (a := 64) (b := 64) f]
  congr 1

/-- The pair's masked attention weights: lane `lk e j` of row `r` holds what row `r` of head `e` gives to row `j`. -/
theorem att_at (hi : ∀ e r j, inc2 (ix2 r (lk e j)) = BitVec.ofBool (le r j))
    (hq : ∀ e r x, q (ix2 r (lk e x)) = (qe le C r (hk (hd p e) x) : EReal))
    (hk' : ∀ e r x, k (ix2 r (lk e x)) = (ke le C r (hk (hd p e) x) : EReal)) (e : Fin 2) (r j : Fin 64) :
    k0_pay80 k0_pay6 inc2 q k (ix2 r (lk e j)) = (att le C (hd p e) r j : EReal) := by
  pointwise [k0_pay80, k0_pay6]
  rw [hi, select_bool, sum_lanes]
  have h0 : ∀ x : Fin 64, IntOp.cmpi CmpIPredicate.slt (BitVec.ofNat 32 (lk 0 x).val) 64#32 = 1#1 := by decide +kernel
  have h1 : ∀ x : Fin 64, IntOp.cmpi CmpIPredicate.slt (BitVec.ofNat 32 (lk 1 x).val) 64#32 = 0#1 := by decide +kernel
  simp only [h0, h1, hq]
  have s0 : ∀ (x y : EReal), Scalar.select 0#1 x y = y := fun _ _ => rfl
  have s1 : ∀ (x y : EReal), Scalar.select 1#1 x y = x := fun _ _ => rfl
  simp only [s0, s1]
  unfold att
  fin_cases e
  · have hj : (lk (0 : Fin 2) j).val < 64 := by simp [lk]
    have hj' : ∀ h, (⟨(lk (0 : Fin 2) j).val, h⟩ : Fin 64) = j := fun h => Fin.ext (by simp [lk])
    simp only [Fin.zero_eta, hj, dite_true, hj', mul_zero, Finset.sum_const_zero, add_zero, hk', ← EReal.coe_mul, coe_sum, coe_if_zero]
  · have hj : ¬ (lk (1 : Fin 2) j).val < 64 := by simp [lk]
    have hj' : ∀ h, (⟨(lk (1 : Fin 2) j).val - 64, h⟩ : Fin 64) = j := fun h => Fin.ext (by simp [lk])
    simp only [Fin.mk_one, hj, dite_false, hj', mul_zero, Finset.sum_const_zero, zero_add, hk', ← EReal.coe_mul, coe_sum, coe_if_zero]

/-- The pair's outputs, from the block diagonal state. -/
theorem out_at (ha : ∀ e r j, a (ix2 r (lk e j)) = (att le C (hd p e) r j : EReal))
    (hq : ∀ e r x, q (ix2 r (lk e x)) = (qe le C r (hk (hd p e) x) : EReal))
    (h1 : ∀ r y, v1 (ix2 r y) = (C.v r (hv (hd p 0) y) : EReal)) (h2 : ∀ r y, v2 (ix2 r y) = (C.v r (hv (hd p 1) y) : EReal))
    (hs : ∀ e e' x y, st (ix3 0 (lv e y) (lk e' x)) = ((if e = e' then S (hd p e) x y else 0 : ℝ) : EReal))
    (e : Fin 2) (r : Fin 64) (y : Fin 128) :
    k0_pay85 q (k0_pay71 k0_pay10 v1 v2) a st (ix2 r (lv e y)) = (out le C S (hd p e) r y : EReal) := by
  pointwise [k0_pay85, k0_pay84, k0_pay71, k0_pay10]
  rw [sum_lanes (fun x => q (ix2 r x) * st (ix3 0 (lv e y) x))]
  have e0 : ∀ (j : Fin 64) h, (⟨j.val, h⟩ : Fin 128) = lk 0 j := fun j h => Fin.ext (by simp [lk])
  have e1 : ∀ (j : Fin 64) h, (⟨64 + j.val, h⟩ : Fin 128) = lk 1 j := fun j h => Fin.ext (by simp [lk])
  simp only [e0, e1, ha, hq, hs, h1, h2]
  unfold out
  fin_cases e
  · have hj : (lv (0 : Fin 2) y).val < 128 := by simp [lv]
    have hj' : ∀ h, (⟨(lv (0 : Fin 2) y).val, h⟩ : Fin 128) = y := fun h => Fin.ext (by simp [lv])
    simp [hj, hj', ← EReal.coe_mul, coe_sum, ← EReal.coe_add]
  · have hj : ¬ (lv (1 : Fin 2) y).val < 128 := by simp [lv]
    have hj' : ∀ h, (⟨(lv (1 : Fin 2) y).val - 128, h⟩ : Fin 128) = y := fun h => Fin.ext (by simp [lv])
    simp [hj, hj', ← EReal.coe_mul, coe_sum, ← EReal.coe_add]

theorem below_128 (r : Fin 256) : IntOp.cmpi CmpIPredicate.slt (BitVec.ofNat 32 r.val) 128#32 = BitVec.ofBool (decide (r.val < 128)) := by
  revert r; decide +kernel

theorem below_64 (l : Fin 128) : IntOp.cmpi CmpIPredicate.slt (BitVec.ofNat 32 l.val) 64#32 = BitVec.ofBool (decide (l.val < 64)) := by
  revert l; decide +kernel

/-- The pair's state after the chunk, block diagonal again. -/
theorem next_at (hd' : ∀ e x, dec (ix2 0 (lk e x)) = (Real.exp (tot C (hk (hd p e) x)) : EReal))
    (hk' : ∀ e r x, k (ix2 r (lk e x)) = (kd le C r (hk (hd p e) x) : EReal))
    (h1 : ∀ r y, v1 (ix2 r y) = (C.v r (hv (hd p 0) y) : EReal)) (h2 : ∀ r y, v2 (ix2 r y) = (C.v r (hv (hd p 1) y) : EReal))
    (hs : ∀ e e' x y, st (ix3 0 (lv e y) (lk e' x)) = ((if e = e' then S (hd p e) x y else 0 : ℝ) : EReal))
    (e e' : Fin 2) (x : Fin 64) (y : Fin 128) :
    k0_pay94 k0_pay7 dec k (k0_pay70 v1 v2) (k0_pay84 st) (ix3 0 (lv e y) (lk e' x))
      = ((if e = e' then next le C S (hd p e) x y else 0 : ℝ) : EReal) := by
  pointwise [k0_pay94, k0_pay84, k0_pay70, k0_pay7]
  rw [below_128, below_64, hs, hd']
  have b0 : (lv (0 : Fin 2) y).val < 128 := by simp [lv]
  have b1 : ¬ (lv (1 : Fin 2) y).val < 128 := by simp [lv]
  have c0 : (lk (0 : Fin 2) x).val < 64 := by simp [lk]
  have c1 : ¬ (lk (1 : Fin 2) x).val < 64 := by simp [lk]
  have d0 : ∀ h, (⟨(lv (0 : Fin 2) y).val, h⟩ : Fin 128) = y := fun h => Fin.ext (by simp [lv])
  have d1 : ∀ h, (⟨(lv (1 : Fin 2) y).val - 128, h⟩ : Fin 128) = y := fun h => Fin.ext (by simp [lv])
  have s0 : ∀ (x y : EReal), Scalar.select (IntOp.xori (IntOp.xori (BitVec.ofBool true) (BitVec.ofBool false)) 1#1) x y = y := fun _ _ => rfl
  have s1 : ∀ (x y : EReal), Scalar.select (IntOp.xori (IntOp.xori (BitVec.ofBool true) (BitVec.ofBool true)) 1#1) x y = x := fun _ _ => rfl
  have s2 : ∀ (x y : EReal), Scalar.select (IntOp.xori (IntOp.xori (BitVec.ofBool false) (BitVec.ofBool true)) 1#1) x y = y := fun _ _ => rfl
  have s3 : ∀ (x y : EReal), Scalar.select (IntOp.xori (IntOp.xori (BitVec.ofBool false) (BitVec.ofBool false)) 1#1) x y = x := fun _ _ => rfl
  unfold next
  fin_cases e <;> fin_cases e' <;>
    simp only [Fin.zero_eta, Fin.mk_one, b0, b1, c0, c1, d0, d1, decide_true, decide_false, s0, s1, s2, s3, hk', h1, h2, dite_true, dite_false,
      if_true, if_false, zero_ne_one, one_ne_zero, ← EReal.coe_mul, coe_sum, ← EReal.coe_add, EReal.coe_zero, zero_mul, add_zero]

end

/-- The order masks: which rows a row sees, forward or in the opposite order. -/
theorem inc_fwd (n : BitVec 32) (r j : Fin 64) : k0_pay13 k0_pay11 (k0_pay12 n) (ix2 r j) = BitVec.ofBool (upTo r j) := by
  have h : Scalar.andi (0#1) (Scalar.cmpi CmpIPredicate.sgt n 7#32) = 0#1 := BitVec.zero_and
  pointwise [k0_pay13, k0_pay11, k0_pay12]
  rw [h]
  revert r j
  decide +kernel

theorem inc2_fwd (n : BitVec 1) (e : Fin 2) (r j : Fin 64) :
    k0_pay14 (iota Kind.tc S64x128 32 [0] iota_S64x128_d0_w32) k0_pay8 (Scalar.andi (0#1) n) (ix2 r (lk e j)) = BitVec.ofBool (upTo r j) := by
  have h : Scalar.andi (0#1) n = 0#1 := BitVec.zero_and
  pointwise [k0_pay14, k0_pay8]
  rw [h]
  revert e r j
  decide +kernel

/-- Which rows a row sees in the second direction: from its own on after the first chunk, up to it in the first. -/
def bwd (n : ℕ) (r j : Fin 64) : Bool := if 7 < n then fromOn r j else upTo r j

theorem sgt_seven {n : ℕ} (hn : n < 264) : Scalar.cmpi CmpIPredicate.sgt (BitVec.ofNat 32 n) 7#32 = BitVec.ofBool (decide (7 < n)) := by
  have : ∀ n : Fin 264, Scalar.cmpi CmpIPredicate.sgt (BitVec.ofNat 32 n.val) 7#32 = BitVec.ofBool (decide (7 < n.val)) := by decide +kernel
  exact this ⟨n, hn⟩

theorem inc_bwd {n : ℕ} (hn : n < 264) (r j : Fin 64) : k0_pay46 (BitVec.ofNat 32 n) (ix2 r j) = BitVec.ofBool (bwd n r j) := by
  pointwise [k0_pay46]
  rw [sgt_seven hn]
  unfold bwd
  by_cases h : 7 < n
  · simp only [h, decide_true, if_true]
    revert r j
    decide +kernel
  · simp only [h, decide_false, if_false]
    revert r j
    decide +kernel

theorem inc2_bwd {n : ℕ} (hn : n < 264) (e : Fin 2) (r j : Fin 64) :
    k0_pay47 (BitVec.ofNat 32 n) (iota Kind.tc S64x128 32 [0] iota_S64x128_d0_w32) k0_pay8 (ix2 r (lk e j)) = BitVec.ofBool (bwd n r j) := by
  pointwise [k0_pay47, k0_pay8]
  rw [sgt_seven hn]
  unfold bwd
  by_cases h : 7 < n
  · simp only [h, decide_true, if_true]
    revert e r j
    decide +kernel
  · simp only [h, decide_false, if_false]
    revert e r j
    decide +kernel

/-- The rows that hold tokens: all of them after the first chunk, the last 16 in it. -/
def live (n : ℕ) (r : Fin 64) : Bool := decide (7 < n) || decide (48 ≤ r.val)

theorem live_at {n : ℕ} (hn : n < 264) (r : Fin 64) : k0_pay9 (BitVec.ofNat 32 n) (ix2 r 0) = BitVec.ofBool (live n r) := by
  pointwise [k0_pay9]
  rw [sgt_seven hn]
  unfold live
  have : ∀ r : Fin 64, IntOp.cmpi CmpIPredicate.sge (BitVec.ofNat 32 r.val) 48#32 = BitVec.ofBool (decide (48 ≤ r.val)) := by decide +kernel
  rw [this]
  cases decide (7 < n) <;> cases decide (48 ≤ r.val) <;> rfl

end Cert.KernelIdeal.Gla
end
-- ==== Proof.Block.lean ====
/-
  One chunk of one direction: the outputs and the next states of its two head pairs, from the chunk's rows.
-/
module

public import proofs.«01_k».proof.Proof.Unit

@[expose] public section

set_option maxRecDepth 16384

noncomputable section

namespace Cert.KernelIdeal.Gla

open Idealize.ShloMosaic Cert.Gla
open Cert.KernelIdeal Cert.KernelIdeal.Gen

/-- The chunk that a block of input rows states: queries (scaled by an eighth), keys, values and log decays; rows that hold no
    token decay nothing. -/
def chunkOf (live : Fin 64 → Bool) (Z : Fin 64 → Fin 1664 → ℝ) (U : Fin 128 → Fin 256 → ℝ) (B : Fin 256 → ℝ) : Chunk where
  q r c := Z r ⟨c.val, by omega⟩ * (1 / 8)
  k r c := Z r ⟨256 + c.val, by omega⟩
  v r c := Z r ⟨512 + c.val, by omega⟩
  g r c := if live r then logSig ((∑ x : Fin 128, Z r ⟨1536 + x.val, by omega⟩ * U x c) + B c) / 16 else 0

/-- What the body's values say of one direction's block: the masks are those of the order `le` and the rows those of `C`. -/
structure Block (lm : IVec S64x1 1) (inc : IVec S64x64 1) (inc2 : IVec S64x128 1) (z : Vec Ideal S1x64x1664 .f32)
    (u : Vec Ideal S1x128x256 .f32) (b : Vec Ideal S1x1x256 .f32) (le : Fin 64 → Fin 64 → Bool) (C : Chunk) : Prop where
  hi : ∀ r j, inc (ix2 r j) = BitVec.ofBool (le r j)
  hi2 : ∀ e r j, inc2 (ix2 r (lk e j)) = BitVec.ofBool (le r j)
  hq' : ∀ r c, k0_pay16 z (ix2 r c) = (C.q r c : EReal)
  hk' : ∀ r c, k0_pay17 z (ix2 r c) = (C.k r c : EReal)
  hv' : ∀ r c, k0_pay18 z (ix2 r c) = (C.v r c : EReal)
  hg' : ∀ r c, k0_pay23 lm (k0_pay20 z u b) (k0_pay21 z u b) k0_pay22 (ix2 r c) = (C.g r c : EReal)

section
variable {lm : IVec S64x1 1} {inc : IVec S64x64 1} {inc2 : IVec S64x128 1} {z : Vec Ideal S1x64x1664 .f32}
variable {u : Vec Ideal S1x128x256 .f32} {b : Vec Ideal S1x1x256 .f32} {le : Fin 64 → Fin 64 → Bool} {C : Chunk}

/-- A block of real rows is the chunk those rows state. -/
theorem Block.of_real {live : Fin 64 → Bool} {Z : Fin 64 → Fin 1664 → ℝ} {U : Fin 128 → Fin 256 → ℝ} {B : Fin 256 → ℝ}
    (hi : ∀ r j, inc (ix2 r j) = BitVec.ofBool (le r j)) (hi2 : ∀ e r j, inc2 (ix2 r (lk e j)) = BitVec.ofBool (le r j))
    (hl : ∀ r, lm (ix2 r 0) = BitVec.ofBool (live r))
    (hz : ∀ r c, z (ix3 0 r c) = (Z r c : EReal)) (hu : ∀ a c, u (ix3 0 a c) = (U a c : EReal))
    (hb : ∀ c, b (ix3 0 0 c) = (B c : EReal)) : Block lm inc inc2 z u b le (chunkOf live Z U B) where
  hi := hi
  hi2 := hi2
  hq' r c := by pointwise [k0_pay16, k0_pay15]; rw [hz, ofBits_eighth, ← EReal.coe_mul]; rfl
  hk' r c := by pointwise [k0_pay17, k0_pay15]; rw [hz]; rfl
  hv' r c := by pointwise [k0_pay18, k0_pay15]; rw [hz]; rfl
  hg' r c := gate_at hl hz hu hb r c

variable (h : Block lm inc inc2 z u b le C) {S : State} {st : Vec Ideal S1x256x128 .f32}
include h

/-- The first head pair's outputs. -/
theorem Block.out_first (hs : ∀ e e' x y, st (ix3 0 (lv e y) (lk e' x)) = ((if e = e' then S (hd 0 e) x y else 0 : ℝ) : EReal))
    (e : Fin 2) (r : Fin 64) (y : Fin 128) :
    k0_pay85 (k0_pay33 lm inc (k0_pay16 z) (k0_pay20 z u b) (k0_pay21 z u b) k0_pay22) (k0_pay37 k0_pay10 (k0_pay18 z))
        (k0_pay80 k0_pay6 inc2 (k0_pay33 lm inc (k0_pay16 z) (k0_pay20 z u b) (k0_pay21 z u b) k0_pay22)
          (k0_pay34 lm inc (k0_pay17 z) (k0_pay20 z u b) (k0_pay21 z u b) k0_pay22)) st (ix2 r (lv e y))
      = (out le C S (hd 0 e) r y : EReal) := by
  have hQ : ∀ e r x, k0_pay33 lm inc (k0_pay16 z) (k0_pay20 z u b) (k0_pay21 z u b) k0_pay22 (ix2 r (lk e x))
      = (qe le C r (Cert.Gla.hk (hd 0 e) x) : EReal) := fun e r x => by
    pointwise [k0_pay33]
    rw [qe_at h.hi h.hq' h.hg']; congr 2; apply Fin.ext; simp only [hd, lk, Cert.Gla.hk, Fin.val_zero, Fin.val_one]; omega
  refine out_at (p := 0) (v1 := k0_pay30 (k0_pay18 z)) (v2 := k0_pay31 (k0_pay18 z)) (fun e r j => ?_) hQ (fun r y => ?_) (fun r y => ?_) hs e r y
  · refine att_at (p := 0) h.hi2 hQ (fun e r x => ?_) e r j
    pointwise [k0_pay34]
    rw [ke_at h.hi h.hk' h.hg']; congr 2; apply Fin.ext; simp only [hd, lk, Cert.Gla.hk, Fin.val_zero, Fin.val_one]; omega
  · pointwise [k0_pay30]
    rw [h.hv']; congr 2 <;> (apply Fin.ext; simp only [hd, Cert.Gla.hv, Fin.val_zero, Fin.val_one]; omega)
  · pointwise [k0_pay31]
    rw [h.hv']; congr 2 <;> (apply Fin.ext; simp only [hd, Cert.Gla.hv, Fin.val_zero, Fin.val_one]; omega)

/-- The second head pair's outputs. -/
theorem Block.out_second (hs : ∀ e e' x y, st (ix3 0 (lv e y) (lk e' x)) = ((if e = e' then S (hd 1 e) x y else 0 : ℝ) : EReal))
    (e : Fin 2) (r : Fin 64) (y : Fin 128) :
    k0_pay85 (k0_pay41 lm inc (k0_pay16 z) (k0_pay20 z u b) (k0_pay21 z u b) k0_pay22)
        (k0_pay45 k0_pay10 (k0_pay38 (k0_pay18 z)) (k0_pay39 (k0_pay18 z)))
        (k0_pay80 k0_pay6 inc2 (k0_pay41 lm inc (k0_pay16 z) (k0_pay20 z u b) (k0_pay21 z u b) k0_pay22)
          (k0_pay42 lm inc (k0_pay17 z) (k0_pay20 z u b) (k0_pay21 z u b) k0_pay22)) st (ix2 r (lv e y))
      = (out le C S (hd 1 e) r y : EReal) := by
  have hQ : ∀ e r x, k0_pay41 lm inc (k0_pay16 z) (k0_pay20 z u b) (k0_pay21 z u b) k0_pay22 (ix2 r (lk e x))
      = (qe le C r (Cert.Gla.hk (hd 1 e) x) : EReal) := fun e r x => by
    pointwise [k0_pay41]
    rw [qe_at h.hi h.hq' h.hg']; congr 2; apply Fin.ext; simp only [hd, lk, Cert.Gla.hk, Fin.val_zero, Fin.val_one]; omega
  refine out_at (p := 1) (v1 := k0_pay38 (k0_pay18 z)) (v2 := k0_pay39 (k0_pay18 z)) (fun e r j => ?_) hQ (fun r y => ?_) (fun r y => ?_) hs e r y
  · refine att_at (p := 1) h.hi2 hQ (fun e r x => ?_) e r j
    pointwise [k0_pay42]
    rw [ke_at h.hi h.hk' h.hg']; congr 2; apply Fin.ext; simp only [hd, lk, Cert.Gla.hk, Fin.val_zero, Fin.val_one]; omega
  · pointwise [k0_pay38]
    rw [h.hv']; congr 2 <;> (apply Fin.ext; simp only [hd, Cert.Gla.hv, Fin.val_zero, Fin.val_one]; omega)
  · pointwise [k0_pay39]
    rw [h.hv']; congr 2 <;> (apply Fin.ext; simp only [hd, Cert.Gla.hv, Fin.val_zero, Fin.val_one]; omega)

/-- The first head pair's next state. -/
theorem Block.next_first (hs : ∀ e e' x y, st (ix3 0 (lv e y) (lk e' x)) = ((if e = e' then S (hd 0 e) x y else 0 : ℝ) : EReal))
    (e e' : Fin 2) (x : Fin 64) (y : Fin 128) :
    k0_pay94 k0_pay7 (k0_pay32 lm (k0_pay20 z u b) (k0_pay21 z u b) k0_pay22)
        (k0_pay35 lm inc (k0_pay17 z) (k0_pay20 z u b) (k0_pay21 z u b) k0_pay22) (k0_pay36 (k0_pay18 z)) (k0_pay84 st)
        (ix3 0 (lv e y) (lk e' x))
      = ((if e = e' then next le C S (hd 0 e) x y else 0 : ℝ) : EReal) := by
  refine next_at (p := 0) (v1 := k0_pay30 (k0_pay18 z)) (v2 := k0_pay31 (k0_pay18 z)) (fun e x => ?_) (fun e r x => ?_) (fun r y => ?_) (fun r y => ?_) hs e e' x y
  · pointwise [k0_pay32]
    rw [dec_at h.hg']; congr 3; apply Fin.ext; simp only [hd, lk, Cert.Gla.hk, Fin.val_zero, Fin.val_one]; omega
  · pointwise [k0_pay35]
    rw [kd_at h.hi h.hk' h.hg']; congr 2; apply Fin.ext; simp only [hd, lk, Cert.Gla.hk, Fin.val_zero, Fin.val_one]; omega
  · pointwise [k0_pay30]
    rw [h.hv']; congr 2 <;> (apply Fin.ext; simp only [hd, Cert.Gla.hv, Fin.val_zero, Fin.val_one]; omega)
  · pointwise [k0_pay31]
    rw [h.hv']; congr 2 <;> (apply Fin.ext; simp only [hd, Cert.Gla.hv, Fin.val_zero, Fin.val_one]; omega)

/-- The second head pair's next state. -/
theorem Block.next_second (hs : ∀ e e' x y, st (ix3 0 (lv e y) (lk e' x)) = ((if e = e' then S (hd 1 e) x y else 0 : ℝ) : EReal))
    (e e' : Fin 2) (x : Fin 64) (y : Fin 128) :
    k0_pay94 k0_pay7 (k0_pay40 lm (k0_pay20 z u b) (k0_pay21 z u b) k0_pay22)
        (k0_pay43 lm inc (k0_pay17 z) (k0_pay20 z u b) (k0_pay21 z u b) k0_pay22) (k0_pay44 (k0_pay18 z)) (k0_pay84 st)
        (ix3 0 (lv e y) (lk e' x))
      = ((if e = e' then next le C S (hd 1 e) x y else 0 : ℝ) : EReal) := by
  refine next_at (p := 1) (v1 := k0_pay38 (k0_pay18 z)) (v2 := k0_pay39 (k0_pay18 z)) (fun e x => ?_) (fun e r x => ?_) (fun r y => ?_) (fun r y => ?_) hs e e' x y
  · pointwise [k0_pay40]
    rw [dec_at h.hg']; congr 3; apply Fin.ext; simp only [hd, lk, Cert.Gla.hk, Fin.val_zero, Fin.val_one]; omega
  · pointwise [k0_pay43]
    rw [kd_at h.hi h.hk' h.hg']; congr 2; apply Fin.ext; simp only [hd, lk, Cert.Gla.hk, Fin.val_zero, Fin.val_one]; omega
  · pointwise [k0_pay38]
    rw [h.hv']; congr 2 <;> (apply Fin.ext; simp only [hd, Cert.Gla.hv, Fin.val_zero, Fin.val_one]; omega)
  · pointwise [k0_pay39]
    rw [h.hv']; congr 2 <;> (apply Fin.ext; simp only [hd, Cert.Gla.hv, Fin.val_zero, Fin.val_one]; omega)

end

section
variable (lm : IVec S64x1 1) (inc : IVec S64x64 1) (inc2 : IVec S64x128 1) (z : Vec Ideal S1x64x1664 .f32) (p6 : IVec S1x128 1)
variable (u : Vec Ideal S1x128x256 .f32) (b : Vec Ideal S1x1x256 .f32) (a g1 g2 g3 : FVec Ideal S64x256 .f32)
variable (v : FVec Ideal S64x512 .bf16) (q k w0 : FVec Ideal S64x128 .bf16) (Q K : FVec Ideal S64x256 .bf16) (w : FVec Ideal S128x256 .bf16)
variable (st : Vec Ideal S1x256x128 .f32) (i7 : IVec S256x128 1) (d : FVec Ideal S1x128 .f32) (s : FVec Ideal S256x128 .f32) (vv : FVec Ideal S64x256 .bf16)

-- the second direction's text, and the second pairs', are the first's under other names
theorem same_q : k0_pay61 lm inc (k0_pay49 z) (k0_pay56 z u) (k0_pay57 z u) b
    = k0_pay26 lm inc (k0_pay16 z) (k0_pay20 z u b) (k0_pay21 z u b) k0_pay22 := rfl
theorem same_k : k0_pay64 lm inc (k0_pay50 z) (k0_pay56 z u) (k0_pay57 z u) b
    = k0_pay29 lm inc (k0_pay17 z) (k0_pay20 z u b) (k0_pay21 z u b) k0_pay22 := rfl
theorem same_kd : k0_pay63 lm inc (k0_pay50 z) (k0_pay56 z u) (k0_pay57 z u) b
    = k0_pay28 lm inc (k0_pay17 z) (k0_pay20 z u b) (k0_pay21 z u b) k0_pay22 := rfl
theorem same_dec : k0_pay60 lm (k0_pay56 z u) (k0_pay57 z u) b = k0_pay25 lm (k0_pay20 z u b) (k0_pay21 z u b) k0_pay22 := rfl
theorem same_dec0 : k0_pay67 lm (k0_pay56 z u) (k0_pay57 z u) b = k0_pay32 lm (k0_pay20 z u b) (k0_pay21 z u b) k0_pay22 := rfl
theorem same_dec1 : k0_pay74 (k0_pay25 lm g1 g2 g3) = k0_pay40 lm g1 g2 g3 := rfl
theorem same_v : k0_pay51 z = k0_pay18 z := rfl
theorem same_q0 : k0_pay68 (k0_pay26 lm inc a g1 g2 g3) = k0_pay33 lm inc a g1 g2 g3 := rfl
theorem same_k0 : k0_pay68 (k0_pay29 lm inc a g1 g2 g3) = k0_pay34 lm inc a g1 g2 g3 := rfl
theorem same_q1 : k0_pay75 (k0_pay26 lm inc a g1 g2 g3) = k0_pay41 lm inc a g1 g2 g3 := rfl
theorem same_k1 : k0_pay76 (k0_pay29 lm inc a g1 g2 g3) = k0_pay42 lm inc a g1 g2 g3 := rfl
theorem same_kd0 : k0_pay69 (k0_pay28 lm inc a g1 g2 g3) = k0_pay35 lm inc a g1 g2 g3 := rfl
theorem same_kd1 : k0_pay77 (k0_pay28 lm inc a g1 g2 g3) = k0_pay43 lm inc a g1 g2 g3 := rfl
theorem same_w0 : k0_pay71 k0_pay10 (k0_pay65 v) (k0_pay66 v) = k0_pay37 (F := Ideal) k0_pay10 v := rfl
theorem same_w1 : k0_pay79 k0_pay10 v = k0_pay45 (F := Ideal) k0_pay10 (k0_pay38 v) (k0_pay39 v) := rfl
theorem same_v0 : k0_pay70 (k0_pay65 v) (k0_pay66 v) = k0_pay36 v := rfl
theorem same_v1 : k0_pay78 v = k0_pay44 v := rfl
theorem same_att : k0_pay81 p6 inc2 q k = k0_pay80 p6 inc2 q k := rfl
theorem same_out1 : k0_pay87 q w w0 st = k0_pay85 q w w0 st := rfl
theorem same_out2 : k0_pay89 inc2 (k0_pay68 Q) w (k0_pay82 p6 Q K) k0_pay83 st = k0_pay85 (k0_pay68 Q) w (k0_pay80 p6 inc2 (k0_pay68 Q) (k0_pay68 K)) st := rfl
theorem same_out3 : k0_pay93 (k0_pay91 p6 inc2 q k w) (k0_pay92 q st) = k0_pay85 q w (k0_pay80 p6 inc2 q k) st := rfl
theorem same_st1 : k0_pay86 st = k0_pay84 st := rfl
theorem same_st2 : k0_pay88 st = k0_pay84 st := rfl
theorem same_st3 : k0_pay90 st = k0_pay84 st := rfl
theorem same_next1 : k0_pay95 i7 d q vv s = k0_pay94 i7 d q vv s := rfl
theorem same_next2 : k0_pay96 i7 d q vv s = k0_pay94 i7 d q vv s := rfl
theorem same_next3 : k0_pay97 i7 d q vv s = k0_pay94 i7 d q vv s := rfl
end

/-- The row of outputs of a direction: the first pair's columns, then the second's. -/
theorem row_at (x x' : FVec Ideal S64x256 .f32) (e : Fin 2) (r : Fin 64) (y : Fin 128) :
    k0_pay4 x x' (ix3 0 r (hv (hd 0 e) y)) = x (ix2 r (lv e y)) ∧ k0_pay4 x x' (ix3 0 r (hv (hd 1 e) y)) = x' (ix2 r (lv e y)) := by
  constructor
  · pointwise [k0_pay4]
    have hlt : (hv (hd 0 e) y).val < 256 := by simp only [hd, hv, Fin.val_zero]; omega
    simp only [hlt, dite_true]
    congr 2
    apply Fin.ext; simp only [hd, hv, lv, Fin.val_zero]; omega
  · pointwise [k0_pay4]
    have hlt : ¬ (hv (hd 1 e) y).val < 256 := by simp only [hd, hv, Fin.val_one]; omega
    simp only [hlt, dite_false]
    congr 2
    apply Fin.ext; simp only [hd, hv, lv, Fin.val_one]; omega

theorem same_row (x x' : FVec Ideal S64x256 .f32) : k0_pay5 x x' = k0_pay4 x x' := rfl

end Cert.KernelIdeal.Gla
end
-- ==== Proof.Step.lean ====
/-
  One point of the kernel's grid that holds a chunk: what it writes to the two outputs and the states it leaves behind.
-/
module

public import proofs.«01_k».proof.Proof.Gen.KernelIdeal.Value
public import proofs.«01_k».proof.Proof.Block
public import Idealize.ShloMosaic.Lib.Pipeline.ValueKit
public import Idealize.ShloMosaic.Lib.Pipeline.ReadBack

@[expose] public section

set_option maxRecDepth 16384

noncomputable section

namespace Cert.KernelIdeal.Gla

open Idealize.ShloMosaic Idealize.ShloMosaic.TcCoe Idealize.SL.Sem Cert.Gla
open Cert.KernelIdeal Cert.KernelIdeal.Gen

/-- Lane `l` of pair `p` in the array that carries the states. -/
def pl (p : Fin 2) (l : Fin 128) : Fin 256 := ⟨128 * p.val + l.val, by omega⟩

/-- The carried array holds the two directions' states, each pair's block diagonal. -/
structure Holds (X : Vec Ideal S2x256x256 .f32) (S0 S1 : State) : Prop where
  fst : ∀ p e e' x y, X (ix3 0 (lv e y) (pl p (lk e' x))) = ((if e = e' then S0 (hd p e) x y else 0 : ℝ) : EReal)
  snd : ∀ p e e' x y, X (ix3 1 (lv e y) (pl p (lk e' x))) = ((if e = e' then S1 (hd p e) x y else 0 : ℝ) : EReal)

/-- The blocks of the carried array, one pair of one direction each. -/
theorem ld_pair (X : Vec Ideal S2x256x256 .f32) (r : Fin 256) (l : Fin 128) :
    View.ld X (Rect.unit ![0, 0, 0] ![1, 256, 128] inb_S2x256x256_S1x256x128_0_0_0) (ix3 0 r l) = X (ix3 0 r (pl 0 l))
    ∧ View.ld X (Rect.unit ![0, 0, 128] ![1, 256, 128] inb_S2x256x256_S1x256x128_0_0_128) (ix3 0 r l) = X (ix3 0 r (pl 1 l))
    ∧ View.ld X (Rect.unit ![1, 0, 0] ![1, 256, 128] inb_S2x256x256_S1x256x128_1_0_0) (ix3 0 r l) = X (ix3 1 r (pl 0 l))
    ∧ View.ld X (Rect.unit ![1, 0, 128] ![1, 256, 128] inb_S2x256x256_S1x256x128_1_0_128) (ix3 0 r l) = X (ix3 1 r (pl 1 l)) := by
  refine ⟨?_, ?_, ?_, ?_⟩ <;> pointwise [] <;> congr 2 <;> (apply Fin.ext; simp [pl])

theorem emb_pair (r : Fin 256) (l : Fin 128) :
    (Rect.unit (s := S2x256x256) ![0, 0, 0] ![1, 256, 128] inb_S2x256x256_S1x256x128_0_0_0).emb (ix3 0 r l) = ix3 0 r (pl 0 l)
    ∧ (Rect.unit (s := S2x256x256) ![0, 0, 128] ![1, 256, 128] inb_S2x256x256_S1x256x128_0_0_128).emb (ix3 0 r l) = ix3 0 r (pl 1 l)
    ∧ (Rect.unit (s := S2x256x256) ![1, 0, 0] ![1, 256, 128] inb_S2x256x256_S1x256x128_1_0_0).emb (ix3 0 r l) = ix3 1 r (pl 0 l)
    ∧ (Rect.unit (s := S2x256x256) ![1, 0, 128] ![1, 256, 128] inb_S2x256x256_S1x256x128_1_0_128).emb (ix3 0 r l) = ix3 1 r (pl 1 l) := by
  refine ⟨?_, ?_, ?_, ?_⟩ <;>
    (refine funext fun a => Fin.ext ?_
     rw [ValueKit.rect_emb_unit_val]
     fin_cases a <;> simp [pl])

/-- Off the last store, an array of stores holds what the earlier ones left. -/
theorem canon_miss (R : Rect S2x256x256) (w : R.shape.Idx → Elt Ideal .f32) (L : List (View.Piece (Elt Ideal) S2x256x256 .f32)) (y : S2x256x256.Idx)
    (h : y ∉ R.set) : View.canon ((⟨R, w⟩ : View.Piece (Elt Ideal) S2x256x256 .f32) :: L) y = View.canon L y :=
  View.canon_cons_of_not_mem _ _ h

/-- Four stores that tile the carried array, read at a pair of a direction. -/
theorem canon_pairs (w10 w11 w00 w01 : Vec Ideal S1x256x128 .f32) (r : Fin 256) (l : Fin 128) :
    let L : List (View.Piece (Elt Ideal) S2x256x256 .f32) :=
      [⟨Rect.unit ![1, 0, 128] ![1, 256, 128] inb_S2x256x256_S1x256x128_1_0_128, w11⟩,
        ⟨Rect.unit ![1, 0, 0] ![1, 256, 128] inb_S2x256x256_S1x256x128_1_0_0, w10⟩,
        ⟨Rect.unit ![0, 0, 128] ![1, 256, 128] inb_S2x256x256_S1x256x128_0_0_128, w01⟩,
        ⟨Rect.unit ![0, 0, 0] ![1, 256, 128] inb_S2x256x256_S1x256x128_0_0_0, w00⟩]
    View.canon L (ix3 0 r (pl 0 l)) = w00 (ix3 0 r l) ∧ View.canon L (ix3 0 r (pl 1 l)) = w01 (ix3 0 r l)
    ∧ View.canon L (ix3 1 r (pl 0 l)) = w10 (ix3 0 r l) ∧ View.canon L (ix3 1 r (pl 1 l)) = w11 (ix3 0 r l) := by
  obtain ⟨e00, e01, e10, e11⟩ := emb_pair r l
  intro L
  have m11 : ∀ (d p : Fin 2), (d ≠ 1 ∨ p ≠ 1) → ix3 d r (pl p l) ∉ (Rect.unit (s := S2x256x256) ![1, 0, 128] ![1, 256, 128] inb_S2x256x256_S1x256x128_1_0_128).set := by
    intro d p hdp hm
    rw [Rect.mem_set_unit] at hm
    have h0 := hm 0
    have h2 := hm 2
    fin_cases d <;> fin_cases p <;> simp [pl] at h0 h2 hdp <;> omega
  have m10 : ∀ (d p : Fin 2), (d ≠ 1 ∨ p ≠ 0) → ix3 d r (pl p l) ∉ (Rect.unit (s := S2x256x256) ![1, 0, 0] ![1, 256, 128] inb_S2x256x256_S1x256x128_1_0_0).set := by
    intro d p hdp hm
    rw [Rect.mem_set_unit] at hm
    have h0 := hm 0
    have h2 := hm 2
    fin_cases d <;> fin_cases p <;> simp [pl] at h0 h2 hdp <;> omega
  have m01 : ∀ (d p : Fin 2), (d ≠ 0 ∨ p ≠ 1) → ix3 d r (pl p l) ∉ (Rect.unit (s := S2x256x256) ![0, 0, 128] ![1, 256, 128] inb_S2x256x256_S1x256x128_0_0_128).set := by
    intro d p hdp hm
    rw [Rect.mem_set_unit] at hm
    have h0 := hm 0
    have h2 := hm 2
    fin_cases d <;> fin_cases p <;> simp [pl] at h0 h2 hdp <;> omega
  refine ⟨?_, ?_, ?_, ?_⟩
  · refine (canon_miss _ _ _ _ (m11 0 0 (by decide))).trans ((canon_miss _ _ _ _ (m10 0 0 (by decide))).trans ((canon_miss _ _ _ _ (m01 0 0 (by decide))).trans ?_))
    exact (congrArg _ e00.symm).trans (View.canon_cons_emb _ _ _ _)
  · refine (canon_miss _ _ _ _ (m11 0 1 (by decide))).trans ((canon_miss _ _ _ _ (m10 0 1 (by decide))).trans ?_)
    exact (congrArg _ e01.symm).trans (View.canon_cons_emb _ _ _ _)
  · refine (canon_miss _ _ _ _ (m11 1 0 (by decide))).trans ?_
    exact (congrArg _ e10.symm).trans (View.canon_cons_emb _ _ _ _)
  · exact (congrArg _ e11.symm).trans (View.canon_cons_emb _ _ _ _)

variable (m : (ℓ : Loc nD τ sig) → Buf (Elt Ideal) ℓ) (c : Dev nD) (t : Fin cfg0.N)

/-- The second axis of the grid at a point: the chunk's block. -/
abbrev word : BitVec 32 := BitVec.ofNat 32 (grid0.coords t 1).val

/-- A forward block at a point, and a backward one. -/
abbrev FwdBlock (C : Chunk) : Prop :=
  Block (k0_pay9 (word t)) (k0_pay13 k0_pay11 (k0_pay12 (word t)))
    (k0_pay14 (iota Kind.tc S64x128 32 [0] iota_S64x128_d0_w32) k0_pay8 (Scalar.andi (0#1) (Scalar.cmpi .sgt (word t) 7#32)))
    (iblk m c 0 t) (View.ld (iblk m c 2 t) (Rect.unit ![0, 0, 0] ![1, 128, 256] inb_S2x128x256_S1x128x256_0_0_0))
    (View.ld (iblk m c 3 t) (Rect.unit ![0, 0, 0] ![1, 1, 256] inb_S2x1x256_S1x1x256_0_0_0)) upTo C

abbrev BwdBlock (le : Fin 64 → Fin 64 → Bool) (C : Chunk) : Prop :=
  Block (k0_pay9 (word t)) (k0_pay46 (word t)) (k0_pay47 (word t) (iota Kind.tc S64x128 32 [0] iota_S64x128_d0_w32) k0_pay8)
    (iblk m c 1 t) (View.ld (iblk m c 2 t) (Rect.unit ![1, 0, 0] ![1, 128, 256] inb_S2x128x256_S1x128x256_1_0_0))
    (View.ld (iblk m c 3 t) (Rect.unit ![1, 0, 0] ![1, 1, 256] inb_S2x1x256_S1x1x256_1_0_0)) le C

variable {m c t}
variable {C0 C1 : Chunk} {S0 S1 : State} {le : Fin 64 → Fin 64 → Bool}
variable (h0 : ¬ t.val % 264 = 0) (h1 : ¬ t.val % 264 ≤ 6) (h2 : 7 ≤ t.val % 264)

theorem head_pair (h : Fin 4) : ∃ p e, h = hd p e := by
  refine ⟨⟨h.val / 2, by omega⟩, ⟨h.val % 2, by omega⟩, Fin.ext ?_⟩
  simp only [hd]; omega

section
variable (hb : FwdBlock m c t C0) (hS : Holds (outsAt0 m c (t.val - 1) (Nat.lt_of_le_of_lt (Nat.sub_le _ _) t.isLt)).2.2 S0 S1)
include hb hS h0 h1 h2

/-- The forward output's block. -/
theorem fwd_out (h : Fin 4) (r : Fin 64) (y : Fin 128) :
    (outsAt0 m c t.val t.isLt).1 (ix3 0 r (hv h y)) = (out upTo C0 S0 h r y : EReal) := by
  rw [outsAt0_C m c t h0 h1 h2]
  dsimp only
  frame_out
  simp only [read_unread_whole, same_att, same_out1]
  obtain ⟨p, e, rfl⟩ := head_pair h
  fin_cases p
  · refine (row_at _ _ e r y).1.trans ?_
    have hs := fun e e' x y => ((ld_pair _ (lv e y) (lk e' x)).1.trans (hS.fst 0 e e' x y))
    exact hb.out_first hs e r y
  · refine (row_at _ _ e r y).2.trans ?_
    have hs := fun e e' x y => ((ld_pair _ (lv e y) (lk e' x)).2.1.trans (hS.fst 1 e e' x y))
    exact hb.out_second hs e r y

end

section
variable (hb : BwdBlock m c t le C1) (hS : Holds (outsAt0 m c (t.val - 1) (Nat.lt_of_le_of_lt (Nat.sub_le _ _) t.isLt)).2.2 S0 S1)
include hb hS h0 h1 h2

/-- The backward output's block. -/
theorem bwd_out (h : Fin 4) (r : Fin 64) (y : Fin 128) :
    (outsAt0 m c t.val t.isLt).2.1 (ix3 0 r (hv h y)) = (out le C1 S1 h r y : EReal) := by
  rw [outsAt0_C m c t h0 h1 h2]
  dsimp only
  frame_out
  simp only [read_unread_whole, same_row, same_out2, same_out3, same_q, same_k, same_v, same_q0, same_k0, same_q1, same_k1, same_w0, same_w1]
  obtain ⟨p, e, rfl⟩ := head_pair h
  fin_cases p
  · refine (row_at _ _ e r y).1.trans ?_
    have hs := fun e e' x y => ((ld_pair _ (lv e y) (lk e' x)).2.2.1.trans (hS.snd 0 e e' x y))
    exact hb.out_first hs e r y
  · refine (row_at _ _ e r y).2.trans ?_
    have hs := fun e e' x y => ((ld_pair _ (lv e y) (lk e' x)).2.2.2.trans (hS.snd 1 e e' x y))
    exact hb.out_second hs e r y

/-- The states left behind. -/
theorem both_next (hf : FwdBlock m c t C0) : Holds (outsAt0 m c t.val t.isLt).2.2 (next upTo C0 S0) (next le C1 S1) := by
  rw [outsAt0_C m c t h0 h1 h2]
  dsimp only
  frame_out
  simp only [read_unread_whole, same_next1, same_next2, same_next3, same_st1, same_st2, same_st3, same_dec, same_dec0, same_dec1, same_kd, same_kd0, same_kd1,
    same_v, same_v0, same_v1]
  constructor
  · intro p e e' x y
    fin_cases p
    · refine (canon_pairs _ _ _ _ (lv e y) (lk e' x)).1.trans ?_
      have hs := fun e e' x y => ((ld_pair _ (lv e y) (lk e' x)).1.trans (hS.fst 0 e e' x y))
      exact hf.next_first hs e e' x y
    · refine (canon_pairs _ _ _ _ (lv e y) (lk e' x)).2.1.trans ?_
      have hs := fun e e' x y => ((ld_pair _ (lv e y) (lk e' x)).2.1.trans (hS.fst 1 e e' x y))
      exact hf.next_second hs e e' x y
  · intro p e e' x y
    fin_cases p
    · refine (canon_pairs _ _ _ _ (lv e y) (lk e' x)).2.2.1.trans ?_
      have hs := fun e e' x y => ((ld_pair _ (lv e y) (lk e' x)).2.2.1.trans (hS.snd 0 e e' x y))
      exact hb.next_first hs e e' x y
    · refine (canon_pairs _ _ _ _ (lv e y) (lk e' x)).2.2.2.trans ?_
      have hs := fun e e' x y => ((ld_pair _ (lv e y) (lk e' x)).2.2.2.trans (hS.snd 1 e e' x y))
      exact hb.next_second hs e e' x y

end

end Cert.KernelIdeal.Gla
end
-- ==== Proof.Seq.lean ====
/-
  The tokens in the order in which each direction reads them, cut into chunks of 64, and the padded rows from which the kernel takes the same chunks.
-/
module

public import proofs.«01_k».proof.Proof.Block

@[expose] public section

noncomputable section

namespace Cert.Gla

open scoped BigOperators
open Cert.KernelIdeal.Gla

/-- The arguments over the real numbers: the projected tokens of two batch entries, each direction's gate factor and gate bias. -/
structure Args where
  z : Fin 2 → Fin 16400 → Fin 1568 → ℝ
  u : Fin 2 → Fin 16 → Fin 256 → ℝ
  b : Fin 2 → Fin 256 → ℝ

/-- The token that direction `d` reads at place `s`: the first 16 stay, the others are reversed in direction 1. -/
def tok (d : Fin 2) (s : ℕ) : ℕ := if d = 1 ∧ 16 ≤ s then 16415 - s else s

theorem tok_lt (d : Fin 2) {s : ℕ} (h : s < 16400) : tok d s < 16400 := by
  unfold tok; split <;> omega

theorem tok_zero {d : Fin 2} (hd : d.val < 1) (s : ℕ) : tok d s = s :=
  if_neg fun h => by have e := congrArg Fin.val h.1; rw [Fin.val_one] at e; omega

theorem tok_early (d : Fin 2) {s : ℕ} (h : s < 16) : tok d s = s := if_neg fun h' => by have := h'.2; omega

theorem tok_late {d : Fin 2} (hd : ¬d.val < 1) {s : ℕ} (h : ¬s < 16) : tok d s = 16415 - s :=
  if_pos ⟨Fin.ext (by rw [Fin.val_one]; omega), by omega⟩

/-- What `f` holds for the token at row `i` of chunk `n`, and zero on the 48 rows of padding in front. -/
def rowOf (d : Fin 2) (n : ℕ) (i : Fin 64) (f : Fin 16400 → ℝ) : ℝ :=
  if h : 48 ≤ 64 * n + i.val ∧ 64 * n + i.val < 16448 then f ⟨tok d (64 * n + i.val - 48), tok_lt d (by omega)⟩ else 0

/-- The logarithm of direction `d`'s gate at a token. -/
def gate (A : Args) (d b : Fin 2) (c : Fin 256) (s : Fin 16400) : ℝ :=
  logSig ((∑ x : Fin 16, A.z b s ⟨1536 + (16 * d.val + x.val), by omega⟩ * A.u d x c) + A.b d c) / 16

/-- Chunk `n` of direction `d` in batch entry `b`. -/
def seq (A : Args) (d b : Fin 2) (n : ℕ) : Chunk where
  q i c := rowOf d n i fun s => A.z b s ⟨c.val, by omega⟩ * (1 / 8)
  k i c := rowOf d n i fun s => A.z b s ⟨256 + c.val, by omega⟩
  v i c := rowOf d n i fun s => A.z b s ⟨512 + c.val, by omega⟩
  g i c := rowOf d n i (gate A d b c)

theorem seq_q (A : Args) (d b : Fin 2) (n : ℕ) (i : Fin 64) (c : Fin 256) :
    (seq A d b n).q i c = rowOf d n i fun s => A.z b s ⟨c.val, by omega⟩ * (1 / 8) := rfl

theorem seq_k (A : Args) (d b : Fin 2) (n : ℕ) (i : Fin 64) (c : Fin 256) :
    (seq A d b n).k i c = rowOf d n i fun s => A.z b s ⟨256 + c.val, by omega⟩ := rfl

theorem seq_v (A : Args) (d b : Fin 2) (n : ℕ) (i : Fin 64) (c : Fin 512) :
    (seq A d b n).v i c = rowOf d n i fun s => A.z b s ⟨512 + c.val, by omega⟩ := rfl

theorem seq_g (A : Args) (d b : Fin 2) (n : ℕ) (i : Fin 64) (c : Fin 256) : (seq A d b n).g i c = rowOf d n i (gate A d b c) := rfl

/-- The padded rows. -/
def padZ (A : Args) (b : Fin 2) (R l : ℕ) : ℝ :=
  if h : 496 ≤ R ∧ R < 16896 ∧ l < 1568 then A.z b ⟨R - 496, by omega⟩ ⟨l, h.2.2⟩ else 0

/-- The gate factors, each direction's 16 rows at its own place among 128. -/
def padU (A : Args) (d : Fin 2) (a : Fin 128) (c : Fin 256) : ℝ :=
  if h : 16 * d.val ≤ a.val ∧ a.val < 16 * d.val + 16 then A.u d ⟨a.val - 16 * d.val, by omega⟩ c else 0

/-- Of a sum against the placed factors only the 16 placed rows count. -/
theorem sum_padU (A : Args) (d : Fin 2) (c : Fin 256) (f : ℕ → ℝ) :
    (∑ x : Fin 128, f x.val * padU A d x c) = ∑ x : Fin 16, f (16 * d.val + x.val) * A.u d x c := by
  have e : ∀ x : Fin 16, f (16 * d.val + x.val) * A.u d x c
      = f (⟨16 * d.val + x.val, by omega⟩ : Fin 128).val * padU A d ⟨16 * d.val + x.val, by omega⟩ c := fun x => by
    unfold padU
    rw [dif_pos ⟨by simp only; omega, by simp only; omega⟩]
    congr 2
    exact Fin.ext (by simp only; omega)
  rw [Finset.sum_congr rfl fun x _ => e x]
  have hinj : Function.Injective fun x : Fin 16 => (⟨16 * d.val + x.val, by omega⟩ : Fin 128) := fun x y h => by
    have := congrArg Fin.val h
    exact Fin.ext (by simp only at this; omega)
  rw [← Finset.sum_image (s := Finset.univ) (g := fun x : Fin 16 => (⟨16 * d.val + x.val, by omega⟩ : Fin 128))
    (f := fun x : Fin 128 => f x.val * padU A d x c) fun x _ y _ h => hinj h]
  symm
  refine Finset.sum_subset (Finset.subset_univ _) fun x _ hx => ?_
  unfold padU
  rw [dif_neg, mul_zero]
  intro h
  exact hx (Finset.mem_image.mpr ⟨⟨x.val - 16 * d.val, by omega⟩, Finset.mem_univ _, Fin.ext (by simp only; omega)⟩)

/-- The chunk that the kernel makes of block `n` for direction `d`, with the mask of step `s`. -/
def blockChunk (A : Args) (d b : Fin 2) (s n : ℕ) : Chunk :=
  chunkOf (live s) (fun r l => padZ A b (64 * n + r.val) l.val) (padU A d) (A.b d)

theorem chunk_ext {C D : Chunk} (hq : ∀ r c, C.q r c = D.q r c) (hk : ∀ r c, C.k r c = D.k r c) (hv : ∀ r c, C.v r c = D.v r c)
    (hg : ∀ r c, C.g r c = D.g r c) : C = D := by
  cases C; cases D
  congr 1 <;> funext r c
  · exact hq r c
  · exact hk r c
  · exact hv r c
  · exact hg r c

/-- A row that holds a token is the row of that token. -/
theorem row_token (A : Args) (d b : Fin 2) {s n : ℕ} {r i : Fin 64} {j : ℕ} (hl : live s r = true) (h48 : 48 ≤ 64 * j + i.val)
    (hlt : 64 * j + i.val < 16448) (hR : 64 * n + r.val = tok d (64 * j + i.val - 48) + 496) :
    (∀ c, (blockChunk A d b s n).q r c = (seq A d b j).q i c) ∧ (∀ c, (blockChunk A d b s n).k r c = (seq A d b j).k i c)
      ∧ (∀ c, (blockChunk A d b s n).v r c = (seq A d b j).v i c) ∧ (∀ c, (blockChunk A d b s n).g r c = (seq A d b j).g i c) := by
  have ht := tok_lt d (s := 64 * j + i.val - 48) (by omega)
  have hz : ∀ l (h : l < 1568), padZ A b (64 * n + r.val) l = A.z b ⟨tok d (64 * j + i.val - 48), ht⟩ ⟨l, h⟩ := fun l h => by
    unfold padZ
    rw [dif_pos ⟨by omega, by omega, h⟩]
    congr 1
    exact Fin.ext (by simp only; omega)
  refine ⟨fun c => ?_, fun c => ?_, fun c => ?_, fun c => ?_⟩
  · rw [seq_q]; show padZ A b (64 * n + r.val) c.val * (1 / 8) = _
    rw [hz _ (by omega)]; unfold rowOf; rw [dif_pos ⟨h48, hlt⟩]
  · rw [seq_k]; show padZ A b (64 * n + r.val) (256 + c.val) = _
    rw [hz _ (by omega)]; unfold rowOf; rw [dif_pos ⟨h48, hlt⟩]
  · rw [seq_v]; show padZ A b (64 * n + r.val) (512 + c.val) = _
    rw [hz _ (by omega)]; unfold rowOf; rw [dif_pos ⟨h48, hlt⟩]
  · rw [seq_g]; show (if live s r then logSig ((∑ x : Fin 128, padZ A b (64 * n + r.val) (1536 + x.val) * padU A d x c) + A.b d c) / 16 else 0) = _
    rw [hl, if_pos rfl, sum_padU A d c fun x => padZ A b (64 * n + r.val) (1536 + x)]
    unfold rowOf
    rw [dif_pos ⟨h48, hlt⟩]
    unfold gate
    congr 3
    exact Finset.sum_congr rfl fun x _ => by rw [hz _ (by omega)]

/-- A row of padding is zero. -/
theorem row_pad (A : Args) (d b : Fin 2) {s n : ℕ} {r i : Fin 64} {j : ℕ} (hl : live s r = false) (hR : 64 * n + r.val < 496)
    (h48 : 64 * j + i.val < 48) :
    (∀ c, (blockChunk A d b s n).q r c = (seq A d b j).q i c) ∧ (∀ c, (blockChunk A d b s n).k r c = (seq A d b j).k i c)
      ∧ (∀ c, (blockChunk A d b s n).v r c = (seq A d b j).v i c) ∧ (∀ c, (blockChunk A d b s n).g r c = (seq A d b j).g i c) := by
  have hz : ∀ l, padZ A b (64 * n + r.val) l = 0 := fun l => by
    unfold padZ
    rw [dif_neg (by omega)]
  have hr : ∀ f, rowOf d j i f = 0 := fun f => by
    unfold rowOf
    rw [dif_neg (by omega)]
  refine ⟨fun c => ?_, fun c => ?_, fun c => ?_, fun c => ?_⟩
  · rw [seq_q]; show padZ A b (64 * n + r.val) c.val * (1 / 8) = _
    rw [hz, hr, zero_mul]
  · rw [seq_k]; show padZ A b (64 * n + r.val) (256 + c.val) = _
    rw [hz, hr]
  · rw [seq_v]; show padZ A b (64 * n + r.val) (512 + c.val) = _
    rw [hz, hr]
  · rw [seq_g]; show (if live s r then _ else (0 : ℝ)) = _
    rw [hl, hr]; rfl

/-- The first block that holds tokens is the first chunk of both directions. -/
theorem block_seven (A : Args) (d b : Fin 2) : blockChunk A d b 7 7 = seq A d b 0 := by
  have key : ∀ r : Fin 64, _ := fun r => by
    by_cases h : 48 ≤ r.val
    · exact row_token A d b (s := 7) (n := 7) (r := r) (i := r) (j := 0) (by simp [live, h]) (by omega) (by omega)
        (by unfold tok; rw [if_neg (by omega)]; omega)
    · exact row_pad A d b (s := 7) (n := 7) (r := r) (i := r) (j := 0) (by simp [live, h]) (by omega) (by omega)
  exact chunk_ext (fun r => (key r).1) (fun r => (key r).2.1) (fun r => (key r).2.2.1) fun r => (key r).2.2.2

/-- Direction 0 reads its blocks in order. -/
theorem block_fwd (A : Args) (b : Fin 2) {n : ℕ} (h7 : 7 < n) (hn : n < 264) : blockChunk A 0 b n n = seq A 0 b (n - 7) := by
  have key : ∀ r : Fin 64, _ := fun r =>
    row_token A 0 b (s := n) (n := n) (r := r) (i := r) (j := n - 7) (by simp [live, h7]) (by omega) (by omega)
        (by unfold tok; rw [if_neg (by simp)]; omega)
  exact chunk_ext (fun r => (key r).1) (fun r => (key r).2.1) (fun r => (key r).2.2.1) fun r => (key r).2.2.2

/-- Direction 1 reads its later blocks from the last on, and each from its end. -/
theorem block_bwd (A : Args) (b : Fin 2) {n : ℕ} (h7 : 7 < n) (hn : n < 264) : blockChunk A 1 b n (271 - n) = (seq A 1 b (n - 7)).flip := by
  have key : ∀ r : Fin 64, _ := fun r =>
    row_token A 1 b (s := n) (n := 271 - n) (r := r) (i := Fin.rev r) (j := n - 7) (by simp [live, h7])
      (by rw [Fin.val_rev]; omega) (by rw [Fin.val_rev]; omega)
      (by rw [Fin.val_rev]; unfold tok; rw [if_pos ⟨rfl, by omega⟩]; omega)
  exact chunk_ext (fun r => (key r).1) (fun r => (key r).2.1) (fun r => (key r).2.2.1) fun r => (key r).2.2.2

/-- A row with a token holds what `f` holds there. -/
theorem rowOf_at (d : Fin 2) (n : ℕ) (i : Fin 64) (f : Fin 16400 → ℝ) (h48 : 48 ≤ 64 * n + i.val) (hlt : 64 * n + i.val < 16448) (s : Fin 16400)
    (hs : s.val = tok d (64 * n + i.val - 48)) : rowOf d n i f = f s := by
  unfold rowOf
  rw [dif_pos ⟨h48, hlt⟩]
  exact congrArg f (Fin.ext hs.symm)

/-- A row of padding holds zero. -/
theorem rowOf_pad (d : Fin 2) (n : ℕ) (i : Fin 64) (f : Fin 16400 → ℝ) (h48 : ¬48 ≤ 64 * n + i.val) : rowOf d n i f = 0 :=
  dif_neg fun h => h48 h.1

/-- The queries of the padding are zero. -/
theorem seq_pad (A : Args) (d b : Fin 2) {r : Fin 64} (h : r.val < 48) (c : Fin 256) : (seq A d b 0).q r c = 0 := by
  rw [seq_q]
  unfold rowOf
  rw [dif_neg (by omega)]

end Cert.Gla
end
-- ==== Proof.Entry.lean ====
/-
  What the kernel's region finds in its windows: the padded rows, the placed gate factors and the gate biases.
-/
module

public import proofs.«01_k».proof.Proof.Step
public import proofs.«01_k».proof.Proof.Seq
public import Idealize.ShloMosaic.Lib.Routing.OpsSet
public import Idealize.ShloMosaic.Lib.Routing.OpsPair
public import Idealize.ShloMosaic.Lib.StableHlo.ReadAt

@[expose] public section

set_option maxRecDepth 16384

noncomputable section

namespace Cert.KernelIdeal.Gla

open Idealize.ShloMosaic Idealize.ShloMosaic.TcCoe Idealize.SL.Sem Cert.Gla
open Cert.KernelIdeal Cert.KernelIdeal.Gen

/-- A block of 16 rows set into the zero factors at a direction and a row. -/
theorem place_at (x0 : Vec Ideal S2x128x256 .f32) (idx : IVec S2 32) (upd : Vec Ideal S16x256 .f32) (d0 o : ℕ)
    (h0 : (idx (ix1 0)).toInt = (d0 : Int)) (h1 : (idx (ix1 1)).toInt = (o : Int)) (d : Fin 2) (a : Fin 128) (c : Fin 256) :
    Host.scatter scatter_S2x128x256_S2_S16x256_01_0_01_0 (fun _ b => b) x0 idx upd (ix3 d a c)
      = if h : d.val = d0 ∧ o ≤ a.val ∧ a.val < o + 16 then upd (ix2 ⟨a.val - o, by omega⟩ c) else x0 (ix3 d a c) := by
  have key : ∀ (r : Fin 16) (l : Fin 256), scatter_S2x128x256_S2_S16x256_01_0_01_0.resultIdx? (ix2 r l) idx = some (ix3 d a c)
      ↔ (d0 = d.val ∧ o + r.val = a.val ∧ l = c) := by
    intro r l
    rw [Routing.resultIdx?_eq_some]
    have s0 : scatter_S2x128x256_S2_S16x256_01_0_01_0.start (ix2 r l) idx 0 = (d0 : Int) := by
      rw [← h0]
      unfold ScatterDims.start
      rw [dif_pos (by decide)]
      congr 2
      funext b; fin_cases b; rfl
    have s1 : scatter_S2x128x256_S2_S16x256_01_0_01_0.start (ix2 r l) idx 1 = (o : Int) := by
      rw [← h1]
      unfold ScatterDims.start
      rw [dif_pos (by decide)]
      congr 2
      funext b; fin_cases b; rfl
    have s2 : scatter_S2x128x256_S2_S16x256_01_0_01_0.start (ix2 r l) idx 2 = 0 := rfl
    have w0 : scatter_S2x128x256_S2_S16x256_01_0_01_0.window (ix2 r l) 0 = 0 := rfl
    have w1 : scatter_S2x128x256_S2_S16x256_01_0_01_0.window (ix2 r l) 1 = r.val := rfl
    have w2 : scatter_S2x128x256_S2_S16x256_01_0_01_0.window (ix2 r l) 2 = l.val := rfl
    constructor
    · intro h
      have g0 := h 0
      have g1 := h 1
      have g2 := h 2
      rw [s0, w0] at g0
      rw [s1, w1] at g1
      rw [s2, w2] at g2
      change (d0 : Int) + ((0 : ℕ) : Int) = (d.val : Int) at g0
      change (o : Int) + (r.val : Int) = (a.val : Int) at g1
      change (0 : Int) + (l.val : Int) = (c.val : Int) at g2
      exact ⟨by omega, by omega, Fin.ext (by omega)⟩
    · rintro ⟨g0, g1, rfl⟩ ax
      fin_cases ax
      · show scatter_S2x128x256_S2_S16x256_01_0_01_0.start (ix2 r l) idx 0 + (scatter_S2x128x256_S2_S16x256_01_0_01_0.window (ix2 r l) 0 : Int) = (d.val : Int)
        rw [s0, w0]; omega
      · show scatter_S2x128x256_S2_S16x256_01_0_01_0.start (ix2 r l) idx 1 + (scatter_S2x128x256_S2_S16x256_01_0_01_0.window (ix2 r l) 1 : Int) = (a.val : Int)
        rw [s1, w1]; omega
      · show scatter_S2x128x256_S2_S16x256_01_0_01_0.start (ix2 r l) idx 2 + (scatter_S2x128x256_S2_S16x256_01_0_01_0.window (ix2 r l) 2 : Int) = (l.val : Int)
        rw [s2, w2]; omega
  have all : ∀ k : S16x256.Idx, k = ix2 (k 0) (k 1) := fun k => by
    funext a; fin_cases a <;> rfl
  by_cases h : d.val = d0 ∧ o ≤ a.val ∧ a.val < o + 16
  · rw [dif_pos h]
    refine Routing.scatter_set_hit _ _ _ _ _ _ (fun k hk => ?_) (ix2 ⟨a.val - o, by omega⟩ c) ((key _ _).mpr ⟨h.1.symm, by simp only; omega, rfl⟩)
    rw [all k] at hk ⊢
    obtain ⟨g0, g1, g2⟩ := (key _ _).mp hk
    rw [g2]; congr 2; exact Fin.ext (by simp only; omega)
  · rw [dif_neg h]
    refine Routing.scatter_set_miss _ _ _ _ _ fun k hk => h ?_
    rw [all k] at hk
    obtain ⟨g0, g1, g2⟩ := (key _ _).mp hk
    have := (k 0).isLt
    change (k 0).val < 16 at this
    omega

variable (m : (ℓ : Loc nD τ sig) → Buf (Elt Ideal) ℓ) (c : Dev nD)

theorem entry_rows (b : Fin 2) (R : Fin 16896) (l : Fin 1664) :
    V m c main_v0 (ix3 b R l) = if h : 496 ≤ R.val ∧ l.val < 1568 then m ((c : Thread nD τ).loc main_arg0) (ix3 b ⟨R.val - 496, by omega⟩ ⟨l.val, h.2⟩) else (0 : EReal) := by
  unfold V
  after_reads_at
  have hz : FloatOps.sitofp (F := Ideal) FTy.f32 (0#32) = (0 : EReal) := by
    show ((((0#32 : BitVec 32).toInt : ℝ)) : EReal) = 0
    simp
  rw [hz]
  by_cases h : 496 ≤ R.val ∧ l.val < 1568
  · rw [dif_pos ⟨⟨h.1, by omega⟩, h.2⟩, dif_pos h]
  · rw [dif_neg fun h' => h ⟨h'.1.1, h'.2⟩, dif_neg h]

theorem entry_factors (d : Fin 2) (a : Fin 128) (l : Fin 256) :
    V m c main_v13 (ix3 d a l) = if h : 16 * d.val ≤ a.val ∧ a.val < 16 * d.val + 16 then m ((c : Thread nD τ).loc main_arg1) (ix3 d ⟨a.val - 16 * d.val, by omega⟩ l) else (0 : EReal) := by
  unfold V
  after_reads_simp
  clean_types
  rw [place_at _ _ _ 1 16, place_at _ _ _ 0 0]
  · by_cases h : 16 * d.val ≤ a.val ∧ a.val < 16 * d.val + 16
    · rw [dif_pos h]
      by_cases hd : d.val = 1
      · rw [dif_pos ⟨hd, by omega, by omega⟩]
        pointwise []
        congr 2 <;> apply Fin.ext <;> simp only [Fin.val_one] <;> omega
      · rw [dif_neg fun h' => hd h'.1, dif_pos ⟨by omega, by omega, by omega⟩]
        pointwise []
        congr 2 <;> apply Fin.ext <;> simp only [Fin.val_zero] <;> omega
    · rw [dif_neg h, dif_neg (by omega), dif_neg (by omega)]
      pointwise []
  all_goals
    pointwise []
    after_reads_simp
    rfl

theorem entry_bias (d : Fin 2) (l : Fin 256) :
    V m c main_v14 (ix3 d 0 l) = m ((c : Thread nD τ).loc main_arg2) (ix2 d l) := by
  unfold V
  after_reads_at

/-- The arguments hold the real numbers of `A`. -/
structure Reals (A : Args) : Prop where
  z : ∀ b s l, m ((c : Thread nD τ).loc main_arg0) (ix3 b s l) = (A.z b s l : EReal)
  u : ∀ d x l, m ((c : Thread nD τ).loc main_arg1) (ix3 d x l) = (A.u d x l : EReal)
  b : ∀ d l, m ((c : Thread nD τ).loc main_arg2) (ix2 d l) = (A.b d l : EReal)

/-! ## The grid's points -/

theorem coords_batch : ∀ t : Fin cfg0.N, (grid0.coords t 0).val = t.val / 264 := by decide +kernel

theorem coords_step : ∀ t : Fin cfg0.N, (grid0.coords t 1).val = t.val % 264 := by decide +kernel

/-- The block that direction 1 takes at step `n`. -/
def back (n : ℕ) : ℕ := if n ≤ 7 then n else 271 - n

theorem index_fwd : ∀ t : Fin cfg0.N, win0_0.index t = ![t.val / 264, t.val % 264, 0] := by decide +kernel

theorem index_bwd : ∀ t : Fin cfg0.N, win0_1.index t = ![t.val / 264, back (t.val % 264), 0] := by decide +kernel

theorem index_factors : ∀ t : Fin cfg0.N, win0_2.index t = ![0, 0, 0] := by decide +kernel

theorem index_bias : ∀ t : Fin cfg0.N, win0_3.index t = ![0, 0, 0] := by decide +kernel

theorem lt_points (t : Fin cfg0.N) : t.val < 528 := t.isLt

variable {m c} {A : Args} (hA : Reals m c A)
include hA

theorem real_rows (b : Fin 2) (R : Fin 16896) (l : Fin 1664) : V m c main_v0 (ix3 b R l) = (padZ A b R.val l.val : EReal) := by
  rw [entry_rows]
  unfold padZ
  by_cases h : 496 ≤ R.val ∧ l.val < 1568
  · rw [dif_pos h, dif_pos ⟨h.1, R.isLt, h.2⟩, hA.z]
  · rw [dif_neg h, dif_neg fun h' => h ⟨h'.1, h'.2.2⟩]; rfl

theorem real_factors (d : Fin 2) (a : Fin 128) (l : Fin 256) : V m c main_v13 (ix3 d a l) = (padU A d a l : EReal) := by
  rw [entry_factors]
  unfold padU
  by_cases h : 16 * d.val ≤ a.val ∧ a.val < 16 * d.val + 16
  · rw [dif_pos h, dif_pos h, hA.u]
  · rw [dif_neg h, dif_neg h]; rfl

theorem blk_fwd (t : Fin cfg0.N) (r : Fin 64) (l : Fin 1664) :
    iblk m c 0 t (ix3 0 r l) = (padZ A ⟨t.val / 264, by have := lt_points t; omega⟩ (64 * (t.val % 264) + r.val) l.val : EReal) := by
  rw [← real_rows hA ⟨t.val / 264, by have := lt_points t; omega⟩ ⟨64 * (t.val % 264) + r.val, by omega⟩ l]
  refine congrArg (V m c main_v0) (funext fun a => Fin.ext ?_)
  blk_simp [index_fwd]
  fin_cases a <;> simp <;> omega

theorem blk_bwd (t : Fin cfg0.N) (r : Fin 64) (l : Fin 1664) :
    iblk m c 1 t (ix3 0 r l) = (padZ A ⟨t.val / 264, by have := lt_points t; omega⟩ (64 * back (t.val % 264) + r.val) l.val : EReal) := by
  rw [← real_rows hA ⟨t.val / 264, by have := lt_points t; omega⟩ ⟨64 * back (t.val % 264) + r.val, by unfold back; split <;> omega⟩ l]
  refine congrArg (V m c main_v0) (funext fun a => Fin.ext ?_)
  blk_simp [index_bwd]
  fin_cases a <;> simp <;> omega

theorem blk_factors (t : Fin cfg0.N) (d : Fin 2) (a : Fin 128) (l : Fin 256) : iblk m c 2 t (ix3 d a l) = (padU A d a l : EReal) := by
  rw [← real_factors hA]
  refine congrArg (V m c main_v13) (funext fun a => Fin.ext ?_)
  blk_simp [index_factors]
  fin_cases a <;> simp

theorem blk_bias (t : Fin cfg0.N) (d : Fin 2) (l : Fin 256) : iblk m c 3 t (ix3 d 0 l) = (A.b d l : EReal) := by
  rw [← hA.b, ← entry_bias m c]
  refine congrArg (V m c main_v14) (funext fun a => Fin.ext ?_)
  blk_simp [index_bias]
  fin_cases a <;> simp

theorem fwd_block (t : Fin cfg0.N) : FwdBlock m c t
    (blockChunk A 0 ⟨t.val / 264, by have := lt_points t; omega⟩ (t.val % 264) (t.val % 264)) := by
  have hn : t.val % 264 < 264 := Nat.mod_lt _ (by norm_num)
  unfold FwdBlock word
  rw [coords_step]
  refine Block.of_real (inc_fwd _) (inc2_fwd _) (live_at hn) (blk_fwd hA t) (fun a l => ?_) fun l => ?_
  · refine Eq.trans ?_ (blk_factors hA t 0 a l)
    pointwise []
  · refine Eq.trans ?_ (blk_bias hA t 0 l)
    pointwise []

theorem bwd_block (t : Fin cfg0.N) : BwdBlock m c t (bwd (t.val % 264))
    (blockChunk A 1 ⟨t.val / 264, by have := lt_points t; omega⟩ (t.val % 264) (back (t.val % 264))) := by
  have hn : t.val % 264 < 264 := Nat.mod_lt _ (by norm_num)
  unfold BwdBlock word
  rw [coords_step]
  refine Block.of_real (inc_bwd hn) (inc2_bwd hn) (live_at hn) (blk_bwd hA t) (fun a l => ?_) fun l => ?_
  · refine Eq.trans ?_ (blk_factors hA t 1 a l)
    pointwise []
  · refine Eq.trans ?_ (blk_bias hA t 1 l)
    pointwise []

end Cert.KernelIdeal.Gla
end
-- ==== Proof.Induct.lean ====
/-
  The carried states along the grid, and each step's two output blocks.
-/
module

public import proofs.«01_k».proof.Proof.Entry

@[expose] public section

set_option maxRecDepth 16384

noncomputable section

namespace Cert.KernelIdeal.Gla

open Idealize.ShloMosaic Idealize.ShloMosaic.TcCoe Idealize.SL.Sem Cert.Gla
open Cert.KernelIdeal Cert.KernelIdeal.Gen

variable (m : (ℓ : Loc nD τ sig) → Buf (Elt Ideal) ℓ) (c : Dev nD)

/-- The first step of a batch entry leaves the states zero. -/
theorem first_zero (t : Fin cfg0.N) (h0 : t.val % 264 = 0) : Holds (outsAt0 m c t.val t.isLt).2.2 (fun _ _ _ => 0) (fun _ _ _ => 0) := by
  rw [outsAt0_A m c t h0 (by omega) (by omega)]
  dsimp only
  frame_out
  constructor <;>
    (intro p e e' x y
     pointwise [k0_pay1]
     rw [ite_self]
     rfl)

/-- The steps before the first tokens keep the states. -/
theorem early_keep (t : Fin cfg0.N) (h0 : ¬t.val % 264 = 0) (h1 : t.val % 264 ≤ 6) :
    (outsAt0 m c t.val t.isLt).2.2 = (outsAt0 m c (t.val - 1) (by have := t.isLt; omega)).2.2 := by
  rw [outsAt0_B m c t h0 h1 (by omega)]
  rfl

/-- The steps before the first tokens write zeros. -/
theorem early_out (t : Fin cfg0.N) (h1 : t.val % 264 ≤ 6) (r : Fin 64) (w : Fin 512) :
    (outsAt0 m c t.val t.isLt).1 (ix3 0 r w) = ((0 : ℝ) : EReal) ∧ (outsAt0 m c t.val t.isLt).2.1 (ix3 0 r w) = ((0 : ℝ) : EReal) := by
  by_cases h0 : t.val % 264 = 0
  · rw [outsAt0_A m c t h0 (by omega) (by omega)]
    dsimp only
    frame_out
    constructor
    · pointwise [k0_pay2]
      rfl
    · pointwise [k0_pay3]
      rfl
  · rw [outsAt0_B m c t h0 h1 (by omega)]
    dsimp only
    frame_out
    constructor
    · pointwise [k0_pay2]
      rfl
    · pointwise [k0_pay3]
      rfl

/-- The states after the step at point `t`: those of the chunks up to that step. -/
def StatesAt (A : Args) (t : ℕ) (ht : t < 528) : Prop :=
  Holds (outsAt0 m c t ht).2.2 (stateAt upTo (seq A 0 ⟨t / 264, by omega⟩) (t % 264 - 6)) (stateAt upTo (seq A 1 ⟨t / 264, by omega⟩) (t % 264 - 6))

variable {m c} {A : Args} (hA : Reals m c A)
include hA

/-- One step from the states before it, in the terms of the chunks. -/
theorem step_state (t : Fin cfg0.N) (h7 : 7 ≤ t.val % 264)
    (ih : Holds (outsAt0 m c (t.val - 1) (by have := t.isLt; omega)).2.2 (stateAt upTo (seq A 0 ⟨t.val / 264, by have := lt_points t; omega⟩) (t.val % 264 - 7))
      (stateAt upTo (seq A 1 ⟨t.val / 264, by have := lt_points t; omega⟩) (t.val % 264 - 7))) :
    StatesAt m c A t.val t.isLt := by
  have h0 : ¬t.val % 264 = 0 := by omega
  have h1 : ¬t.val % 264 ≤ 6 := by omega
  have e : t.val % 264 - 6 = (t.val % 264 - 7) + 1 := by omega
  have hf := fwd_block hA t
  have hb := bwd_block hA t
  unfold StatesAt
  rw [e]
  by_cases h : t.val % 264 = 7
  · rw [h, block_seven] at hf
    rw [h] at hb
    rw [show back 7 = 7 from rfl, show bwd 7 = upTo from rfl, block_seven] at hb
    rw [h] at ih ⊢
    exact both_next h0 h1 h7 hb ih hf
  · rw [block_fwd A _ (by omega) (by omega)] at hf
    rw [show back (t.val % 264) = 271 - t.val % 264 from if_neg (by omega), show bwd (t.val % 264) = fromOn from by funext r j; unfold bwd; rw [if_pos (by omega)],
      block_bwd A _ (by omega) (by omega)] at hb
    have := both_next h0 h1 h7 hb ih hf
    rw [next_flip] at this
    exact this

theorem states (t : ℕ) (ht : t < 528) : StatesAt m c A t ht := by
  induction t with
  | zero =>
    exact first_zero m c ⟨0, ht⟩ rfl
  | succ t ih =>
    by_cases h0 : (t + 1) % 264 = 0
    · have := first_zero m c ⟨t + 1, ht⟩ h0
      unfold StatesAt
      rw [h0]
      exact this
    · have eb : (t + 1) / 264 = t / 264 := by omega
      have ih' := ih (by omega)
      unfold StatesAt at ih'
      by_cases h1 : (t + 1) % 264 ≤ 6
      · unfold StatesAt
        rw [early_keep m c ⟨t + 1, ht⟩ h0 h1]
        simp only [eb]
        rw [show (t + 1) % 264 - 6 = t % 264 - 6 by omega]
        exact ih'
      · refine step_state hA ⟨t + 1, ht⟩ (by simp only; omega) ?_
        simp only [eb]
        rw [show (t + 1) % 264 - 7 = t % 264 - 6 by omega]
        exact ih'

/-- The output of chunk `n` of direction `d`, from the states of the chunks before it. -/
def chunkOut (A : Args) (d b : Fin 2) (n : ℕ) (h : Fin 4) (r : Fin 64) (y : Fin 128) : ℝ :=
  out upTo (seq A d b n) (stateAt upTo (seq A d b) n) h r y

/-- The states that a step with tokens finds. -/
theorem states_before (t : Fin cfg0.N) (h7 : 7 ≤ t.val % 264) :
    Holds (outsAt0 m c (t.val - 1) (by have := t.isLt; omega)).2.2 (stateAt upTo (seq A 0 ⟨t.val / 264, by have := lt_points t; omega⟩) (t.val % 264 - 7))
      (stateAt upTo (seq A 1 ⟨t.val / 264, by have := lt_points t; omega⟩) (t.val % 264 - 7)) := by
  have := states hA (t.val - 1) (by have := lt_points t; omega)
  unfold StatesAt at this
  have eb : (t.val - 1) / 264 = t.val / 264 := by omega
  simp only [eb] at this
  rw [show (t.val - 1) % 264 - 6 = t.val % 264 - 7 by omega] at this
  exact this

theorem out_fwd (t : Fin cfg0.N) (h7 : 7 ≤ t.val % 264) (h : Fin 4) (r : Fin 64) (y : Fin 128) :
    (outsAt0 m c t.val t.isLt).1 (ix3 0 r (Cert.Gla.hv h y))
      = (chunkOut A 0 ⟨t.val / 264, by have := lt_points t; omega⟩ (t.val % 264 - 7) h r y : EReal) := by
  have hf := fwd_block hA t
  by_cases h8 : t.val % 264 = 7
  · rw [h8, block_seven] at hf
    have hs := states_before hA t h7
    rw [h8] at hs ⊢
    exact fwd_out (by omega) (by omega) h7 hf hs h r y
  · rw [block_fwd A _ (by omega) (by omega)] at hf
    exact fwd_out (by omega) (by omega) h7 hf (states_before hA t h7) h r y

theorem out_bwd (t : Fin cfg0.N) (h7 : 7 ≤ t.val % 264) (h : Fin 4) (r : Fin 64) (y : Fin 128) :
    (outsAt0 m c t.val t.isLt).2.1 (ix3 0 r (Cert.Gla.hv h y))
      = (chunkOut A 1 ⟨t.val / 264, by have := lt_points t; omega⟩ (t.val % 264 - 7) h (if t.val % 264 = 7 then r else Fin.rev r) y : EReal) := by
  have hb := bwd_block hA t
  by_cases h8 : t.val % 264 = 7
  · rw [if_pos h8]
    rw [h8] at hb
    rw [show back 7 = 7 from rfl, show bwd 7 = upTo from rfl, block_seven] at hb
    have hs := states_before hA t h7
    rw [h8] at hs ⊢
    exact bwd_out (by omega) (by omega) h7 hb hs h r y
  · rw [if_neg h8]
    rw [show back (t.val % 264) = 271 - t.val % 264 from if_neg (by omega), show bwd (t.val % 264) = fromOn from by funext r j; unfold bwd; rw [if_pos (by omega)],
      block_bwd A _ (by omega) (by omega)] at hb
    have := bwd_out (by omega) (by omega) h7 hb (states_before hA t h7) h r y
    rw [out_flip] at this
    exact this

end Cert.KernelIdeal.Gla
end
-- ==== Proof.Result.lean ====
/-
  The kernel's two result arrays: each row's output at its token's place in the direction's order.
-/
module

public import proofs.«01_k».proof.Proof.Induct
public import proofs.«01_k».proof.Proof.Gen.KernelIdeal.Value

@[expose] public section

set_option maxRecDepth 16384

noncomputable section

namespace Cert.Gla

/-- Row `R` of direction `d`'s result: zero on the padding, below it the output at the row's token. -/
def result (A : Args) (d b : Fin 2) (R : ℕ) (w : Fin 512) : ℝ :=
  if R < 496 then 0
  else Cert.KernelIdeal.Gla.chunkOut A d b ((tok d (R - 496) + 48) / 64) ⟨w.val / 128, by omega⟩
    ⟨(tok d (R - 496) + 48) % 64, Nat.mod_lt _ (by norm_num)⟩ ⟨w.val % 128, Nat.mod_lt _ (by norm_num)⟩

end Cert.Gla

namespace Cert.KernelIdeal.Gla

open Idealize.ShloMosaic Idealize.ShloMosaic.TcCoe Idealize.SL.Sem Cert.Gla
open Cert.KernelIdeal Cert.KernelIdeal.Gen

theorem hv_split (w : Fin 512) : w = Cert.Gla.hv ⟨w.val / 128, by omega⟩ ⟨w.val % 128, Nat.mod_lt _ (by norm_num)⟩ :=
  Fin.ext (by simp only [Cert.Gla.hv]; omega)

theorem idx3 (y : S1x64x512.Idx) : ∃ (r : Fin 64) (w : Fin 512), y = ix3 0 r w :=
  ⟨y 1, y 2, funext fun a => by
    fin_cases a
    · exact Fin.ext (by have : (y 0).val < 1 := (y 0).isLt; show (y 0).val = 0; omega)
    · rfl
    · rfl⟩

/-- The rows of a chunk's padding come out zero. -/
theorem chunkOut_pad (A : Args) (d b : Fin 2) (h : Fin 4) (r : Fin 64) (hr : r.val < 48) (y : Fin 128) : chunkOut A d b 0 h r y = 0 :=
  out_zero _ _ _ _ _ _ (seq_pad A d b hr)

theorem result_fwd (A : Args) (b : Fin 2) (n : ℕ) (r : Fin 64) (w : Fin 512) (h7 : 7 ≤ n) (hn : n < 264) :
    result A 0 b (64 * n + r.val) w = chunkOut A 0 b (n - 7) ⟨w.val / 128, by omega⟩ r ⟨w.val % 128, Nat.mod_lt _ (by norm_num)⟩ := by
  unfold result
  by_cases h : 64 * n + r.val < 496
  · rw [if_pos h]
    obtain rfl : n = 7 := by omega
    exact (chunkOut_pad A 0 b _ r (by omega) _).symm
  · rw [if_neg h]
    have e : tok 0 (64 * n + r.val - 496) = 64 * n + r.val - 496 := if_neg (by simp)
    have e1 : (tok 0 (64 * n + r.val - 496) + 48) / 64 = n - 7 := by rw [e]; omega
    have e2 : (⟨(tok 0 (64 * n + r.val - 496) + 48) % 64, Nat.mod_lt _ (by norm_num)⟩ : Fin 64) = r := Fin.ext (by simp only [e]; omega)
    rw [e1, e2]

theorem result_bwd (A : Args) (b : Fin 2) (n : ℕ) (r : Fin 64) (w : Fin 512) (h7 : 7 ≤ n) (hn : n < 264) :
    result A 1 b (64 * back n + r.val) w
      = chunkOut A 1 b (n - 7) ⟨w.val / 128, by omega⟩ (if n = 7 then r else Fin.rev r) ⟨w.val % 128, Nat.mod_lt _ (by norm_num)⟩ := by
  unfold result
  by_cases h8 : n = 7
  · subst h8
    rw [if_pos rfl, show back 7 = 7 from rfl]
    by_cases h : 64 * 7 + r.val < 496
    · rw [if_pos h]
      exact (chunkOut_pad A 1 b _ r (by omega) _).symm
    · rw [if_neg h]
      have e : tok 1 (64 * 7 + r.val - 496) = 64 * 7 + r.val - 496 := if_neg (by omega)
      have e1 : (tok 1 (64 * 7 + r.val - 496) + 48) / 64 = 7 - 7 := by rw [e]; omega
      have e2 : (⟨(tok 1 (64 * 7 + r.val - 496) + 48) % 64, Nat.mod_lt _ (by norm_num)⟩ : Fin 64) = r := Fin.ext (by simp only [e]; omega)
      rw [e1, e2]
  · rw [if_neg h8, show back n = 271 - n from if_neg (by omega), if_neg (by omega)]
    have e : tok 1 (64 * (271 - n) + r.val - 496) = 16415 - (64 * (271 - n) + r.val - 496) := if_pos ⟨rfl, by omega⟩
    have e1 : (tok 1 (64 * (271 - n) + r.val - 496) + 48) / 64 = n - 7 := by rw [e]; omega
    have e2 : (⟨(tok 1 (64 * (271 - n) + r.val - 496) + 48) % 64, Nat.mod_lt _ (by norm_num)⟩ : Fin 64) = Fin.rev r :=
      Fin.ext (by simp only [e, Fin.val_rev]; omega)
    rw [e1, e2]

/-- The array of a direction's results. -/
def resultArr (A : Args) (d : Fin 2) : Vec Ideal S2x16896x512 .f32 := fun y => (result A d (y 0) (y 1).val (y 2) : EReal)

theorem result_early (A : Args) (d b : Fin 2) (R : ℕ) (w : Fin 512) (h : R < 496) : result A d b R w = 0 := if_pos h

theorem index_out0 : ∀ t : Fin cfg0.N, win0_4.index t = ![t.val / 264, t.val % 264, 0] := by decide +kernel

theorem index_out1 : ∀ t : Fin cfg0.N, win0_5.index t = ![t.val / 264, back (t.val % 264), 0] := by decide +kernel

theorem emb_out0 (t : Fin cfg0.N) (r : Fin 64) (w : Fin 512) : (win0_4.blk t).view.emb (ix3 0 r w)
    = ix3 ⟨t.val / 264, by have := lt_points t; omega⟩ ⟨64 * (t.val % 264) + r.val, by omega⟩ w := by
  refine funext fun a => Fin.ext ?_
  blk_simp [index_out0]
  fin_cases a <;> simp <;> omega

theorem emb_out1 (t : Fin cfg0.N) (r : Fin 64) (w : Fin 512) : (win0_5.blk t).view.emb (ix3 0 r w)
    = ix3 ⟨t.val / 264, by have := lt_points t; omega⟩ ⟨64 * back (t.val % 264) + r.val, by unfold back; split <;> omega⟩ w := by
  refine funext fun a => Fin.ext ?_
  blk_simp [index_out1]
  fin_cases a <;> simp <;> omega

variable {m : (ℓ : Loc nD τ sig) → Buf (Elt Ideal) ℓ} {c : Dev nD} {A : Args} (hA : Reals m c A)
include hA

theorem arr_fwd : (dats m 0 c).arrAt 4 cfg0.N = resultArr A 0 := by
  refine (dats m 0 c).arrAt_eq_of_covers 4 _ (by decide +kernel) fun t hf y => ?_
  blk_simp
  rw [after0_4]
  obtain ⟨r, w, rfl⟩ := idx3 y
  refine Eq.trans ?_ (congrArg (resultArr A 0) (emb_out0 t r w)).symm
  show _ = ((result A 0 ⟨t.val / 264, _⟩ (64 * (t.val % 264) + r.val) w : ℝ) : EReal)
  by_cases h : t.val % 264 ≤ 6
  · rw [(early_out m c t h r w).1, result_early _ _ _ _ _ (by omega)]
  · rw [result_fwd A _ _ r w (by omega) (Nat.mod_lt _ (by norm_num))]
    conv_lhs => rw [hv_split w]
    exact out_fwd hA t (by omega) _ r _

theorem arr_bwd : (dats m 0 c).arrAt 5 cfg0.N = resultArr A 1 := by
  refine (dats m 0 c).arrAt_eq_of_covers 5 _ (by decide +kernel) fun t hf y => ?_
  blk_simp
  rw [after0_5]
  obtain ⟨r, w, rfl⟩ := idx3 y
  refine Eq.trans ?_ (congrArg (resultArr A 1) (emb_out1 t r w)).symm
  show _ = ((result A 1 ⟨t.val / 264, _⟩ (64 * back (t.val % 264) + r.val) w : ℝ) : EReal)
  by_cases h : t.val % 264 ≤ 6
  · rw [(early_out m c t h r w).2, result_early _ _ _ _ _ (by unfold back; rw [if_pos (by omega)]; omega)]
  · rw [result_bwd A _ _ r w (by omega) (Nat.mod_lt _ (by norm_num))]
    conv_lhs => rw [hv_split w]
    exact out_bwd hA t (by omega) _ r _

end Cert.KernelIdeal.Gla
end
-- ==== Proof.RefIn.lean ====
/-
  The reference's chunked queries, keys, values and gates at an index.
-/
module

public import proofs.«01_k».proof.Proof.Seq
public import proofs.«01_k».proof.Proof.Gen.ReferenceIdeal.Run
public import Idealize.ShloMosaic.Lib.StableHlo.ReadAt
public import Idealize.ShloMosaic.Lib.Pointwise
public import Idealize.ShloMosaic.Lib.ValueIdxRank6

@[expose] public section

set_option maxRecDepth 16384

noncomputable section

namespace Cert.ReferenceIdeal.Gla

open Idealize.ShloMosaic Idealize.ShloMosaic.TcCoe Idealize.SL.Sem Cert.Gla
open Cert.ReferenceIdeal Cert.ReferenceIdeal.Gen Cert.ReferenceIdeal.Value
open Idealize.ShloMosaic.StableHlo

/-- The contents before the running sums. -/
def V1 (L : Valuation τ sig (Elt Ideal)) : Valuation τ sig (Elt Ideal) :=
  afterL [hostOps0, hostOps0_1, hostOps0_2, hostOps0_3, hostOps0_4, hostOps0_5, hostOps0_6, hostOps0_7, hostOps0_8, hostOps0_9, hostOps0_10, hostOps0_11,
    hostOps0_12, hostOps0_13, hostOps0_14, hostOps0_15, hostOps0_16, hostOps0_17, hostOps0_18] L

theorem sitofp_zero : FloatOps.sitofp (F := Ideal) FTy.f32 (0#32) = (0 : EReal) := by
  show ((((0#32 : BitVec 32).toInt : ℝ)) : EReal) = 0
  simp

/-- The host's form of the logarithm of the sigmoid, divided by 16. -/
theorem logSig_form (X : EReal) (x : ℝ) (h : X = (x : EReal)) :
    Ideal.div (-if -X ≠ -X then -X else max (-X) 0 + Ideal.log1p (Ideal.exp (-FloatOps.absf (F := Ideal) (φ := FTy.f32) (-X)))) (Ideal.ofBits FTy.f32 1098907648#32)
      = ((logSig x / 16 : ℝ) : EReal) := by
  have ha : FloatOps.absf (F := Ideal) (φ := FTy.f32) (-(x : EReal)) = ((|x| : ℝ) : EReal) := by
    show max (-(x : EReal)) (- -(x : EReal)) = _
    rw [neg_neg, max_comm, ← EReal.coe_neg]
    exact (EReal.coe_strictMono.monotone.map_max (a := x) (b := -x)).symm
  have hm : max (-(x : EReal)) 0 = ((max (-x) 0 : ℝ) : EReal) := by
    rw [← EReal.coe_neg]
    exact (EReal.coe_strictMono.monotone.map_max (a := -x) (b := 0)).symm
  subst h
  rw [if_neg (fun h => h rfl), ha, hm, ← EReal.coe_neg, show ∀ y, Ideal.log1p y = Ideal.log (1 + y) from fun _ => rfl, log_one_exp, ← EReal.coe_add, ← EReal.coe_neg,
    ofBits_sixteen, div_sixteen]
  congr 2
  unfold logSig
  have e : max (-x) 0 = -min x 0 := by
    rcases le_total x 0 with h | h
    · rw [max_eq_left (by linarith), min_eq_left h]
    · rw [max_eq_right (by linarith), min_eq_right h, neg_zero]
  rw [e]
  ring

/-- The arguments hold the real numbers of `A`. -/
structure Reals (L : Valuation τ sig (Elt Ideal)) (A : Args) : Prop where
  z : ∀ b s l, L (Proc.devRef .tc main_arg0) (ix3 b s l) = (A.z b s l : EReal)
  u : ∀ d x l, L (Proc.devRef .tc main_arg1) (ix3 d x l) = (A.u d x l : EReal)
  b : ∀ d l, L (Proc.devRef .tc main_arg2) (ix2 d l) = (A.b d l : EReal)

variable {L : Valuation τ sig (Elt Ideal)} {A : Args} (hA : Reals L A)
include hA

/-- The reference's chunked queries are those of the chunks. -/
theorem q_at (d b : Fin 2) (h : Fin 4) (n : Fin 257) (i : Fin 64) (x : Fin 64) :
    V1 L (Proc.devRef .tc main_v52) (ix6 d b h n i x) = ((seq A d b n.val).q i (hk h x) : EReal) := by
  generalize hR : (((seq A d b n.val).q i (hk h x) : ℝ) : EReal) = R
  have hR' : ∀ (b' : Fin 2) (s : Fin 16400) (l : Fin 1568), b' = b → 48 ≤ 64 * n.val + i.val → s.val = tok d (64 * n.val + i.val - 48) → l.val = (hk h x).val →
      HMul.hMul (α := EReal) (L (Proc.devRef .tc main_arg0) (ix3 b' s l)) (Ideal.ofBits FTy.f32 1040187392#32) = R := fun b' s l hb h48 hs hl => by
    have e : l = ⟨(hk h x).val, by omega⟩ := Fin.ext hl
    rw [e, hb]
    rw [hA.z, ofBits_eighth, ← EReal.coe_mul, ← hR, seq_q, rowOf_at d n.val i _ h48 (by omega) s hs]
  unfold V1
  simp only [afterL_cons, afterL_nil]
  after_reads_at
  by_cases hp : 48 ≤ 64 * n.val + i.val
  · rw [dif_pos (by omega)]
    by_cases hd : d.val < 1
    · rw [dif_pos hd]
      after_reads_at
      refine hR' _ _ _ rfl hp ?_ ?_
      · have e := tok_zero hd (64 * n.val + i.val - 48)
        show n.val * 64 + i.val - 48 = _
        omega
      · show h.val * 64 + x.val = 64 * h.val + x.val; omega
    · rw [dif_neg hd]
      after_reads_at
      by_cases hs : 64 * n.val + i.val - 48 < 16
      · rw [dif_pos (by omega)]
        after_reads_at
        refine hR' _ _ _ rfl hp ?_ ?_
        · have e := tok_early d hs
          show n.val * 64 + i.val - 48 = _
          omega
        · show h.val * 64 + x.val = 64 * h.val + x.val; omega
      · rw [dif_neg (by omega)]
        after_reads_at
        refine hR' _ _ _ (if_neg (by decide)) hp ?_ ?_
        · have e := tok_late hd hs
          refine (congrArg (fun f : Fin 16384 => 16 + f.val) (if_pos (by decide))).trans ?_
          refine (congrArg (16 + ·) (Fin.val_rev _)).trans ?_
          show 16 + (16384 - (n.val * 64 + i.val - 48 - 16 + 1)) = _
          omega
        · refine (congrArg (fun f : Fin 256 => f.val) (if_neg (by decide))).trans ?_
          show h.val * 64 + x.val = 64 * h.val + x.val; omega
  · rw [dif_neg (by omega), ← hR, seq_q, rowOf_pad _ _ _ _ hp, sitofp_zero]
    rfl

/-- The reference's chunked keys are those of the chunks. -/
theorem k_at (d b : Fin 2) (h : Fin 4) (n : Fin 257) (i : Fin 64) (x : Fin 64) :
    V1 L (Proc.devRef .tc main_v55) (ix6 d b h n i x) = ((seq A d b n.val).k i (hk h x) : EReal) := by
  generalize hR : (((seq A d b n.val).k i (hk h x) : ℝ) : EReal) = R
  have hR' : ∀ (b' : Fin 2) (s : Fin 16400) (l : Fin 1568), b' = b → 48 ≤ 64 * n.val + i.val → s.val = tok d (64 * n.val + i.val - 48) → l.val = 256 + (hk h x).val →
      L (Proc.devRef .tc main_arg0) (ix3 b' s l) = R := fun b' s l hb h48 hs hl => by
    have e : l = ⟨256 + (hk h x).val, by omega⟩ := Fin.ext hl
    rw [e, hb]
    rw [hA.z, ← hR, seq_k, rowOf_at d n.val i _ h48 (by omega) s hs]
  unfold V1
  simp only [afterL_cons, afterL_nil]
  after_reads_at
  by_cases hp : 48 ≤ 64 * n.val + i.val
  · rw [dif_pos (by omega)]
    by_cases hd : d.val < 1
    · rw [dif_pos hd]
      after_reads_at
      refine hR' _ _ _ rfl hp ?_ ?_
      · have e := tok_zero hd (64 * n.val + i.val - 48)
        show n.val * 64 + i.val - 48 = _
        omega
      · show 256 + (h.val * 64 + x.val) = 256 + (64 * h.val + x.val); omega
    · rw [dif_neg hd]
      after_reads_at
      by_cases hs : 64 * n.val + i.val - 48 < 16
      · rw [dif_pos (by omega)]
        after_reads_at
        refine hR' _ _ _ rfl hp ?_ ?_
        · have e := tok_early d hs
          show n.val * 64 + i.val - 48 = _
          omega
        · show 256 + (h.val * 64 + x.val) = 256 + (64 * h.val + x.val); omega
      · rw [dif_neg (by omega)]
        after_reads_at
        refine hR' _ _ _ (if_neg (by decide)) hp ?_ ?_
        · have e := tok_late hd hs
          refine (congrArg (fun f : Fin 16384 => 16 + f.val) (if_pos (by decide))).trans ?_
          refine (congrArg (16 + ·) (Fin.val_rev _)).trans ?_
          show 16 + (16384 - (n.val * 64 + i.val - 48 - 16 + 1)) = _
          omega
        · refine (congrArg (fun f : Fin 256 => 256 + f.val) (if_neg (by decide))).trans ?_
          show 256 + (h.val * 64 + x.val) = 256 + (64 * h.val + x.val); omega
  · rw [dif_neg (by omega), ← hR, seq_k, rowOf_pad _ _ _ _ hp, sitofp_zero]
    rfl

/-- The reference's chunked values are those of the chunks. -/
theorem v_at (d b : Fin 2) (h : Fin 4) (n : Fin 257) (i : Fin 64) (x : Fin 128) :
    V1 L (Proc.devRef .tc main_v58) (ix6 d b h n i x) = ((seq A d b n.val).v i (hv h x) : EReal) := by
  generalize hR : (((seq A d b n.val).v i (hv h x) : ℝ) : EReal) = R
  have hR' : ∀ (b' : Fin 2) (s : Fin 16400) (l : Fin 1568), b' = b → 48 ≤ 64 * n.val + i.val → s.val = tok d (64 * n.val + i.val - 48) → l.val = 512 + (hv h x).val →
      L (Proc.devRef .tc main_arg0) (ix3 b' s l) = R := fun b' s l hb h48 hs hl => by
    have e : l = ⟨512 + (hv h x).val, by omega⟩ := Fin.ext hl
    rw [e, hb]
    rw [hA.z, ← hR, seq_v, rowOf_at d n.val i _ h48 (by omega) s hs]
  unfold V1
  simp only [afterL_cons, afterL_nil]
  after_reads_at
  by_cases hp : 48 ≤ 64 * n.val + i.val
  · rw [dif_pos (by omega)]
    by_cases hd : d.val < 1
    · rw [dif_pos hd]
      after_reads_at
      refine hR' _ _ _ rfl hp ?_ ?_
      · have e := tok_zero hd (64 * n.val + i.val - 48)
        show n.val * 64 + i.val - 48 = _
        omega
      · show 512 + (h.val * 128 + x.val) = 512 + (128 * h.val + x.val); omega
    · rw [dif_neg hd]
      after_reads_at
      by_cases hs : 64 * n.val + i.val - 48 < 16
      · rw [dif_pos (by omega)]
        after_reads_at
        refine hR' _ _ _ rfl hp ?_ ?_
        · have e := tok_early d hs
          show n.val * 64 + i.val - 48 = _
          omega
        · show 512 + (h.val * 128 + x.val) = 512 + (128 * h.val + x.val); omega
      · rw [dif_neg (by omega)]
        after_reads_at
        refine hR' _ _ _ (if_neg (by decide)) hp ?_ ?_
        · have e := tok_late hd hs
          refine (congrArg (fun f : Fin 16384 => 16 + f.val) (if_pos (by decide))).trans ?_
          refine (congrArg (16 + ·) (Fin.val_rev _)).trans ?_
          show 16 + (16384 - (n.val * 64 + i.val - 48 - 16 + 1)) = _
          omega
        · refine (congrArg (fun f : Fin 512 => 512 + f.val) (if_neg (by decide))).trans ?_
          show 512 + (h.val * 128 + x.val) = 512 + (128 * h.val + x.val); omega
  · rw [dif_neg (by omega), ← hR, seq_v, rowOf_pad _ _ _ _ hp, sitofp_zero]
    rfl

/-- The gates' logarithms at a token. -/
theorem gate_at (d b : Fin 2) (s : Fin 16400) (l : Fin 256) :
    after hostOps0_2 (after hostOps0_1 (after hostOps0 L)) (Proc.devRef .tc main_v11) (ix4 d b s l) = (gate A d b l s : EReal) := by
  have hs : ∀ f : Fin 16 → EReal, (∀ x, f x = (A.z b s ⟨1536 + (16 * d.val + x.val), by omega⟩ * A.u d x l : ℝ)) →
      (∑ x, f x) + L (Proc.devRef .tc main_arg2) (ix2 d l)
        = (((∑ x : Fin 16, A.z b s ⟨1536 + (16 * d.val + x.val), by omega⟩ * A.u d x l) + A.b d l : ℝ) : EReal) := fun f hf => by
    rw [Finset.sum_congr rfl fun x _ => hf x, coe_sum, hA.b, ← EReal.coe_add]
  generalize hR : ((gate A d b l s : ℝ) : EReal) = R
  after_reads_at
  rw [← hR]
  refine logSig_form _ _ (hs _ fun x => ?_)
  rw [hA.z, hA.u, ← EReal.coe_mul]
  refine congrArg (fun k => ((A.z b s k * A.u d x l : ℝ) : EReal)) (Fin.ext ?_)
  show 1536 + (d.val * 16 + x.val) = 1536 + (16 * d.val + x.val)
  omega

/-- The reference's chunked gates are those of the chunks. -/
theorem g_at (d b : Fin 2) (h : Fin 4) (n : Fin 257) (i : Fin 64) (x : Fin 64) :
    V1 L (Proc.devRef .tc main_v61) (ix6 d b h n i x) = ((seq A d b n.val).g i (hk h x) : EReal) := by
  generalize hR : (((seq A d b n.val).g i (hk h x) : ℝ) : EReal) = R
  unfold V1
  simp only [afterL_cons, afterL_nil]
  generalize hW : after hostOps0_2 (after hostOps0_1 (after hostOps0 L)) = W
  have hR' : ∀ (d' b' : Fin 2) (s : Fin 16400) (l : Fin 256), d' = d → b' = b → 48 ≤ 64 * n.val + i.val → s.val = tok d (64 * n.val + i.val - 48) → l.val = (hk h x).val →
      W (Proc.devRef .tc main_v11) (ix4 d' b' s l) = R := fun d' b' s l hd hb h48 hs hl => by
    have e : l = hk h x := Fin.ext hl
    rw [← hW, gate_at hA, e, hd, hb, ← hR, seq_g, rowOf_at d n.val i _ h48 (by omega) s hs]
  after_reads_at
  by_cases hp : 48 ≤ 64 * n.val + i.val
  · rw [dif_pos (by omega)]
    by_cases hd : d.val < 1
    · rw [dif_pos hd]
      after_reads_at
      refine hR' _ _ _ _ (Fin.ext (by rw [Fin.val_zero]; omega)) rfl hp ?_ ?_
      · have e := tok_zero hd (64 * n.val + i.val - 48)
        show n.val * 64 + i.val - 48 = _
        omega
      · show h.val * 64 + x.val = 64 * h.val + x.val; omega
    · rw [dif_neg hd]
      have hd1 : (1 : Fin 2) = d := Fin.ext (by rw [Fin.val_one]; omega)
      after_reads_at
      by_cases hs : 64 * n.val + i.val - 48 < 16
      · rw [dif_pos (by omega)]
        after_reads_at
        refine hR' _ _ _ _ hd1 rfl hp ?_ ?_
        · have e := tok_early d hs
          show n.val * 64 + i.val - 48 = _
          omega
        · show h.val * 64 + x.val = 64 * h.val + x.val; omega
      · rw [dif_neg (by omega)]
        after_reads_at
        refine hR' _ _ _ _ hd1 (if_neg (by decide)) hp ?_ ?_
        · have e := tok_late hd hs
          refine (congrArg (fun f : Fin 16384 => 16 + f.val) (if_pos (by decide))).trans ?_
          refine (congrArg (16 + ·) (Fin.val_rev _)).trans ?_
          show 16 + (16384 - (n.val * 64 + i.val - 48 - 16 + 1)) = _
          omega
        · refine (congrArg (fun f : Fin 256 => f.val) (if_neg (by decide))).trans ?_
          show h.val * 64 + x.val = 64 * h.val + x.val; omega
  · rw [dif_neg (by omega), ← hR, seq_g, rowOf_pad _ _ _ _ hp, sitofp_zero]
    rfl

end Cert.ReferenceIdeal.Gla
end
-- ==== Proof.RefSum.lean ====
/-
  The running sums along a chunk, read at an index as a sum over the rows up to that index.
-/
module

public import proofs.«01_k».proof.Proof.RefIn

@[expose] public section

set_option maxRecDepth 16384

noncomputable section

namespace Cert.ReferenceIdeal.Gla

open Idealize.ShloMosaic Idealize.ShloMosaic.TcCoe Idealize.SL.Sem Cert.Gla
open Cert.ReferenceIdeal Cert.ReferenceIdeal.Gen Cert.ReferenceIdeal.Value
open Idealize.ShloMosaic.StableHlo

theorem foldl_add {ι : Type} (l : List ι) (f : ι → EReal) (v : EReal) : l.foldl (fun r n => r + f n) v = v + (l.map f).sum := by
  induction l generalizing v with
  | nil => simp
  | cons a l ih => rw [List.foldl_cons, ih, List.map_cons, List.sum_cons, add_assoc]

/-- The window's shape: 64 positions along the rows. -/
abbrev Win : Shape := ⟨6, ![1, 1, 1, 1, 64, 1]⟩

/-- The window's positions are the 64 rows. -/
def winEquiv : Fin 64 ≃ Win.Idx where
  toFun j := ix6 0 0 0 0 j 0
  invFun w := w 4
  left_inv _ := rfl
  right_inv w := by
    funext a
    fin_cases a
    · exact Subsingleton.elim (α := Fin 1) _ _
    · exact Subsingleton.elim (α := Fin 1) _ _
    · exact Subsingleton.elim (α := Fin 1) _ _
    · exact Subsingleton.elim (α := Fin 1) _ _
    · rfl
    · exact Subsingleton.elim (α := Fin 1) _ _

theorem window_sum (x : Vec Ideal S2x2x4x257x64x64 .f32) (v : Vec Ideal S_ .f32) (hv : ∀ k, v k = (0 : EReal))
    (hw : S2x2x4x257x64x64.ReduceWindows ![1, 1, 1, 1, 64, 1] ![1, 1, 1, 1, 1, 1] ![0, 0, 0, 0, 63, 0] ![0, 0, 0, 0, 0, 0] S2x2x4x257x64x64)
    (hu : 0 < S_.numel) (d b : Fin 2) (h : Fin 4) (n : Fin 257) (i y : Fin 64) :
    Host.reduceWindowAdd (F := Ideal) (φ := .f32) ![1, 1, 1, 1, 64, 1] ![1, 1, 1, 1, 1, 1] ![0, 0, 0, 0, 63, 0] ![0, 0, 0, 0, 0, 0] x v hw hu (ix6 d b h n i y)
      = ∑ k : Fin 64, if k ≤ i then x (ix6 d b h n k y) else (0 : EReal) := by
  show Ideal.hostReduceWindowAdd _ _ _ _ hw x (v _) _ = _
  rw [hv]
  unfold Ideal.hostReduceWindowAdd Host.reduceWindow
  dsimp only
  rw [foldl_add, zero_add, ← Fin.sum_univ_def]
  refine Fintype.sum_equiv ((Win.rowMajor.symm.trans winEquiv.symm).trans (Equiv.addRight (i + 1))) _ _ fun nn => ?_
  show _ = if Equiv.addRight (i + 1) (winEquiv.symm (Win.rowMajor.symm nn)) ≤ i
    then x (ix6 d b h n (Equiv.addRight (i + 1) (winEquiv.symm (Win.rowMajor.symm nn))) y) else (0 : EReal)
  obtain ⟨j, hj'⟩ : ∃ j : Fin 64, winEquiv.symm (Win.rowMajor.symm nn) = j := ⟨_, rfl⟩
  rw [hj']
  have w0 : (Win.rowMajor.symm nn 0).val = 0 := Nat.lt_one_iff.mp (Win.rowMajor.symm nn 0).isLt
  have w1 : (Win.rowMajor.symm nn 1).val = 0 := Nat.lt_one_iff.mp (Win.rowMajor.symm nn 1).isLt
  have w2 : (Win.rowMajor.symm nn 2).val = 0 := Nat.lt_one_iff.mp (Win.rowMajor.symm nn 2).isLt
  have w3 : (Win.rowMajor.symm nn 3).val = 0 := Nat.lt_one_iff.mp (Win.rowMajor.symm nn 3).isLt
  have w4 : (Win.rowMajor.symm nn 4).val = j.val := congrArg Fin.val hj'
  have w5 : (Win.rowMajor.symm nn 5).val = 0 := Nat.lt_one_iff.mp (Win.rowMajor.symm nn 5).isLt
  have hval : (Equiv.addRight (i + 1) j).val = (j.val + (i.val + 1) % 64) % 64 := by
    show (j + (i + 1)).val = _
    rw [Fin.val_add, Fin.val_add]; rfl
  by_cases hj : 63 ≤ i.val + j.val
  · have hk : Equiv.addRight (i + 1) j ≤ i := by
      rw [Fin.le_def, hval]; omega
    rw [if_pos hk, dif_pos]
    · congr 1
      funext a
      apply Fin.ext
      fin_cases a
      · show d.val * 1 + (Win.rowMajor.symm nn 0).val - 0 = d.val; omega
      · show b.val * 1 + (Win.rowMajor.symm nn 1).val - 0 = b.val; omega
      · show h.val * 1 + (Win.rowMajor.symm nn 2).val - 0 = h.val; omega
      · show n.val * 1 + (Win.rowMajor.symm nn 3).val - 0 = n.val; omega
      · show i.val * 1 + (Win.rowMajor.symm nn 4).val - 63 = (Equiv.addRight (i + 1) j).val
        rw [hval, w4]; omega
      · show y.val * 1 + (Win.rowMajor.symm nn 5).val - 0 = y.val; omega
    · intro a
      fin_cases a
      · show 0 ≤ d.val * 1 + (Win.rowMajor.symm nn 0).val ∧ d.val * 1 + (Win.rowMajor.symm nn 0).val - 0 < 2; omega
      · show 0 ≤ b.val * 1 + (Win.rowMajor.symm nn 1).val ∧ b.val * 1 + (Win.rowMajor.symm nn 1).val - 0 < 2; omega
      · show 0 ≤ h.val * 1 + (Win.rowMajor.symm nn 2).val ∧ h.val * 1 + (Win.rowMajor.symm nn 2).val - 0 < 4; omega
      · show 0 ≤ n.val * 1 + (Win.rowMajor.symm nn 3).val ∧ n.val * 1 + (Win.rowMajor.symm nn 3).val - 0 < 257; omega
      · show 63 ≤ i.val * 1 + (Win.rowMajor.symm nn 4).val ∧ i.val * 1 + (Win.rowMajor.symm nn 4).val - 63 < 64; omega
      · show 0 ≤ y.val * 1 + (Win.rowMajor.symm nn 5).val ∧ y.val * 1 + (Win.rowMajor.symm nn 5).val - 0 < 64; omega
  · have hk : ¬Equiv.addRight (i + 1) j ≤ i := by
      rw [Fin.le_def, hval]; omega
    rw [if_neg hk, dif_neg]
    intro hall
    have h4 : 63 ≤ i.val * 1 + (Win.rowMajor.symm nn 4).val := (hall 4).1
    omega

end Cert.ReferenceIdeal.Gla
end
-- ==== Proof.RefEntry.lean ====
/-
  What the reference's scan over the chunks starts from.
-/
module

public import proofs.«01_k».proof.Proof.RefSum

@[expose] public section

set_option maxRecDepth 16384

noncomputable section

namespace Cert.ReferenceIdeal.Gla

open Idealize.ShloMosaic Idealize.ShloMosaic.TcCoe Idealize.SL.Sem Cert.Gla
open Cert.ReferenceIdeal Cert.ReferenceIdeal.Gen Cert.ReferenceIdeal.Value
open Idealize.ShloMosaic.StableHlo

/-- The contents hold the chunks of `A` and their running sums. -/
structure Chunked (V : Valuation τ sig (Elt Ideal)) (A : Args) : Prop where
  q : ∀ d b h (n : Fin 257) i x, V (Proc.devRef .tc main_v52) (ix6 d b h n i x) = ((seq A d b n.val).q i (hk h x) : EReal)
  k : ∀ d b h (n : Fin 257) i x, V (Proc.devRef .tc main_v55) (ix6 d b h n i x) = ((seq A d b n.val).k i (hk h x) : EReal)
  v : ∀ d b h (n : Fin 257) i x, V (Proc.devRef .tc main_v58) (ix6 d b h n i x) = ((seq A d b n.val).v i (hv h x) : EReal)
  s : ∀ d b h (n : Fin 257) i x, V (Proc.devRef .tc main_v62) (ix6 d b h n i x) = (cum upTo (seq A d b n.val) i (hk h x) : EReal)

variable {L : Valuation τ sig (Elt Ideal)} {A : Args}

theorem chunked (hA : Reals L A) : Chunked (after hostOps0_19 (V1 L)) A where
  q d b h n i x := by
    generalize hR : (((seq A d b n.val).q i (hk h x) : ℝ) : EReal) = R
    generalize hV : V1 L = V
    after_reads_at
    rw [← hV, q_at hA, hR]
  k d b h n i x := by
    generalize hR : (((seq A d b n.val).k i (hk h x) : ℝ) : EReal) = R
    generalize hV : V1 L = V
    after_reads_at
    rw [← hV, k_at hA, hR]
  v d b h n i x := by
    generalize hR : (((seq A d b n.val).v i (hv h x) : ℝ) : EReal) = R
    generalize hV : V1 L = V
    after_reads_at
    rw [← hV, v_at hA, hR]
  s d b h n i x := by
    have hg : ∀ k, (if k ≤ i then (V1 L (Proc.devRef .tc main_v61) (ix6 d b h n k x) : EReal) else (0 : EReal))
        = ((if upTo i k then (seq A d b n.val).g k (hk h x) else 0 : ℝ) : EReal) := fun k => by
      by_cases hk' : k ≤ i
      · rw [if_pos hk', g_at hA, if_pos (by simpa [upTo] using hk')]
      · rw [if_neg hk', if_neg (by simpa [upTo] using hk')]; rfl
    have hs := (window_sum (V1 L (Proc.devRef .tc main_v61)) (broadcastInDim S_ ![] bcast_S_S_ (constant (F := Ideal) S_ .f32 0x00000000#32)) (fun _ => Ideal.ofBits_zero_f32)
      reduceWindows_S2x2x4x257x64x64_S2x2x4x257x64x64_w1s1p0_0_w1s1p0_0_w1s1p0_0_w1s1p0_0_w64s1p63_0_w1s1p0_0 h_S_ d b h n i x).trans
      (Finset.sum_congr rfl fun k _ => hg k)
    refine Eq.trans ?_ (hs.trans (coe_sum _))
    generalize V1 L = V
    after_reads_simp
    rfl

/-- The contents the scan starts from. -/
def V3 (V : Valuation τ sig (Elt Ideal)) : Valuation τ sig (Elt Ideal) := after hostOps0_22 (after hostOps0_21 (after hostOps0_20 V))

/-- The last row's running sum is the chunk's whole sum. -/
theorem cum_last (C : Chunk) (c : Fin 256) : cum upTo C 63 c = tot C c := by
  unfold cum tot
  refine Finset.sum_congr rfl fun j _ => if_pos ?_
  show decide (j ≤ 63) = true
  exact decide_eq_true (Fin.le_def.mpr (by show j.val ≤ 63; omega))

/-- The comparison of two rows' numbers. -/
theorem sees (i j : Fin 64) : IntOp.cmpi CmpIPredicate.sge (BitVec.ofNat 32 i.val) (BitVec.ofNat 32 j.val) = BitVec.ofBool (upTo i j) := by
  have : ∀ i j : Fin 64, IntOp.cmpi CmpIPredicate.sge (BitVec.ofNat 32 i.val) (BitVec.ofNat 32 j.val) = BitVec.ofBool (upTo i j) := by decide +kernel
  exact this i j

variable {V : Valuation τ sig (Elt Ideal)} (hC : Chunked V A)
include hC

theorem qe_entry (n : Fin 257) (d b : Fin 2) (h : Fin 4) (i x : Fin 64) :
    V3 V (Proc.devRef .tc main_v93_2) (ix6 n d b h i x) = (qe upTo (seq A d b n.val) i (hk h x) : EReal) := by
  generalize hR : ((qe upTo (seq A d b n.val) i (hk h x) : ℝ) : EReal) = R
  unfold V3
  after_reads_at
  dsimp only [id]
  pointwise []
  rw [hC.q, hC.s, ← hR, Ideal.exp_coe, ← EReal.coe_mul]
  rfl

theorem dec_entry (n : Fin 257) (d b : Fin 2) (h : Fin 4) (x : Fin 64) :
    V3 V (Proc.devRef .tc main_v93_1) (ix5 n d b h x) = (Real.exp (tot (seq A d b n.val) (hk h x)) : EReal) := by
  generalize hR : ((Real.exp (tot (seq A d b n.val) (hk h x)) : ℝ) : EReal) = R
  unfold V3
  after_reads_at
  dsimp only [id]
  pointwise []
  rw [hC.s, cum_last, Ideal.exp_coe, hR]

theorem inc_entry (n : Fin 257) (d b : Fin 2) (h : Fin 4) (x : Fin 64) (y : Fin 128) :
    V3 V (Proc.devRef .tc main_v93_0) (ix6 n d b h x y)
      = ((∑ j, kd upTo (seq A d b n.val) j (hk h x) * (seq A d b n.val).v j (hv h y) : ℝ) : EReal) := by
  generalize hR : ((∑ j, kd upTo (seq A d b n.val) j (hk h x) * (seq A d b n.val).v j (hv h y) : ℝ) : EReal) = R
  unfold V3
  after_reads_at
  dsimp only [id]
  pointwise []
  rw [← hR, ← coe_sum]
  refine Finset.sum_congr rfl fun j _ => ?_
  rw [hC.k, hC.s, hC.s, hC.v, cum_last, ← EReal.coe_sub, Ideal.exp_coe, ← EReal.coe_mul, ← EReal.coe_mul]
  congr 2
  unfold kd ke
  rw [mul_assoc, ← Real.exp_add, neg_add_eq_sub]

theorem intra_entry (n : Fin 257) (d b : Fin 2) (h : Fin 4) (i : Fin 64) (y : Fin 128) :
    V3 V (Proc.devRef .tc main_v93_3) (ix6 n d b h i y)
      = ((∑ j, att upTo (seq A d b n.val) h i j * (seq A d b n.val).v j (hv h y) : ℝ) : EReal) := by
  generalize hR : ((∑ j, att upTo (seq A d b n.val) h i j * (seq A d b n.val).v j (hv h y) : ℝ) : EReal) = R
  unfold V3
  after_reads_at
  dsimp only [id]
  pointwise []
  rw [← hR, ← coe_sum]
  refine Finset.sum_congr rfl fun j _ => ?_
  have e : ∀ x, HMul.hMul (α := EReal) (HMul.hMul (α := EReal) (V (Proc.devRef .tc main_v52) (ix6 d b h n i x)) (Ideal.exp (V (Proc.devRef .tc main_v62) (ix6 d b h n i x))))
      (HMul.hMul (α := EReal) (V (Proc.devRef .tc main_v55) (ix6 d b h n j x)) (Ideal.exp (Neg.neg (α := EReal) (V (Proc.devRef .tc main_v62) (ix6 d b h n j x)))))
      = ((qe upTo (seq A d b n.val) i (hk h x) * ke upTo (seq A d b n.val) j (hk h x) : ℝ) : EReal) := fun x => by
    rw [hC.q, hC.s, hC.k, hC.s, ← EReal.coe_neg, Ideal.exp_coe, Ideal.exp_coe, ← EReal.coe_mul, ← EReal.coe_mul, ← EReal.coe_mul]
    rfl
  rw [Finset.sum_congr rfl fun x _ => e x, coe_sum, hC.v, ← EReal.coe_mul, sees, select_bool, coe_if_zero]
  unfold att
  rw [ite_mul, zero_mul]

theorem zero_entry (d b : Fin 2) (h : Fin 4) (x : Fin 64) (y : Fin 128) : V3 V (Proc.devRef .tc main_v93_5) (ix5 d b h x y) = ((0 : ℝ) : EReal) := by
  unfold V3
  after_reads_at
  exact Ideal.ofBits_zero_f32

end Cert.ReferenceIdeal.Gla
end
-- ==== Proof.RefLoop.lean ====
/-
  The reference's scan over the chunks: the states it carries and the outputs it writes.
-/
module

public import proofs.«01_k».proof.Proof.RefEntry
public import proofs.«01_k».proof.Proof.Induct
public import Idealize.ShloMosaic.Lib.DynamicIndex
public import Idealize.ShloMosaic.Lib.Pipeline.Value

@[expose] public section

set_option maxRecDepth 16384

noncomputable section

namespace Cert.ReferenceIdeal.Gla

open Idealize.ShloMosaic Idealize.ShloMosaic.TcCoe Idealize.SL.Sem Cert.Gla
open Cert.ReferenceIdeal Cert.ReferenceIdeal.Gen Cert.ReferenceIdeal.Value
open Idealize.ShloMosaic.StableHlo

/-- What the scan holds before its `k`-th trip: the chunks' parts, the states before chunk `k`, and the outputs of the chunks before it. -/
structure Scan (V : Valuation τ sig (Elt Ideal)) (A : Args) (k : ℕ) : Prop where
  inc : ∀ (n : Fin 257) d b h x y, V (Proc.devRef .tc main_v93_0) (ix6 n d b h x y)
      = ((∑ j, kd upTo (seq A d b n.val) j (hk h x) * (seq A d b n.val).v j (hv h y) : ℝ) : EReal)
  dec : ∀ (n : Fin 257) d b h x, V (Proc.devRef .tc main_v93_1) (ix5 n d b h x) = (Real.exp (tot (seq A d b n.val) (hk h x)) : EReal)
  qe : ∀ (n : Fin 257) d b h i x, V (Proc.devRef .tc main_v93_2) (ix6 n d b h i x) = (qe upTo (seq A d b n.val) i (hk h x) : EReal)
  intra : ∀ (n : Fin 257) d b h i y, V (Proc.devRef .tc main_v93_3) (ix6 n d b h i y)
      = ((∑ j, att upTo (seq A d b n.val) h i j * (seq A d b n.val).v j (hv h y) : ℝ) : EReal)
  ctr : V (Proc.devRef .tc main_v93_4) = fun _ => BitVec.ofNat 32 k
  st : ∀ d b h x y, V (Proc.devRef .tc main_v93_5) (ix5 d b h x y) = (stateAt upTo (seq A d b) k h x y : EReal)
  outs : ∀ (n : Fin 257) d b h i y, n.val < k → V (Proc.devRef .tc main_v93_6) (ix6 n d b h i y) = (Cert.KernelIdeal.Gla.chunkOut A d b n.val h i y : EReal)

variable {V : Valuation τ sig (Elt Ideal)} {A : Args} {k : ℕ}

theorem word_int (hk : k < 257) : (BitVec.ofNat 32 k).toInt = (k : ℤ) := by
  rw [BitVec.toInt_ofNat', Int.bmod_eq_of_le] <;> omega

theorem start_five (hk : k < 257) : ∀ a : Fin 5, ((![fun _ => BitVec.ofNat 32 k, constantI S_ 32 0#32, constantI S_ 32 0#32, constantI S_ 32 0#32, constantI S_ 32 0#32]
    : Fin 5 → (⟨S_, .i32⟩ : BufTy).Contents (Elt Ideal)) a (Shape.Idx.first h_S_)).toInt = (((![k, 0, 0, 0, 0] : Fin 5 → ℕ) a : ℕ) : ℤ) := by
  intro a
  fin_cases a
  · exact word_int hk
  all_goals rfl

theorem start_six (hk : k < 257) : ∀ a : Fin 6, ((![fun _ => BitVec.ofNat 32 k, constantI S_ 32 0#32, constantI S_ 32 0#32, constantI S_ 32 0#32, constantI S_ 32 0#32, constantI S_ 32 0#32]
    : Fin 6 → (⟨S_, .i32⟩ : BufTy).Contents (Elt Ideal)) a (Shape.Idx.first h_S_)).toInt = (((![k, 0, 0, 0, 0, 0] : Fin 6 → ℕ) a : ℕ) : ℤ) := by
  intro a
  fin_cases a
  · exact word_int hk
  all_goals rfl

theorem fits_dec (hk : k < 257) : S257x2x2x4x64.Slices (![k, 0, 0, 0, 0] : Fin 5 → ℕ) S1x2x2x4x64 :=
  ⟨rfl, fun a => by fin_cases a <;> first | exact hk | exact le_refl _⟩

theorem fits_wide (hk : k < 257) : S257x2x2x4x64x128.Slices (![k, 0, 0, 0, 0, 0] : Fin 6 → ℕ) S1x2x2x4x64x128 :=
  ⟨rfl, fun a => by fin_cases a <;> first | exact hk | exact le_refl _⟩

theorem fits_qe (hk : k < 257) : S257x2x2x4x64x64.Slices (![k, 0, 0, 0, 0, 0] : Fin 6 → ℕ) S1x2x2x4x64x64 :=
  ⟨rfl, fun a => by fin_cases a <;> first | exact hk | exact le_refl _⟩

/-- The chunk's slice of the decays. -/
theorem slice_dec (hk : k < 257) (x : Vec Ideal S257x2x2x4x64 .f32) (d b : Fin 2) (h : Fin 4) (y : Fin 64) :
    shapeCast S2x2x4x64 (Host.dynamicSlice S1x2x2x4x64 x (fun a => (((![fun _ => BitVec.ofNat 32 k, constantI S_ 32 0#32, constantI S_ 32 0#32, constantI S_ 32 0#32, constantI S_ 32 0#32]
      : Fin 5 → (⟨S_, .i32⟩ : BufTy).Contents (Elt Ideal))) a (Shape.Idx.first h_S_)).toInt) sliceFits_S257x2x2x4x64_S1x2x2x4x64) shapeCasts_S1x2x2x4x64_S2x2x4x64 (ix4 d b h y)
      = x (ix5 ⟨k, hk⟩ d b h y) := by
  rw [Host.dynamicSlice_eq_extractStridedSlice _ _ _ _ _ (fits_dec hk) (start_five hk)]
  pointwise []

theorem slice_wide (hk : k < 257) (x : Vec Ideal S257x2x2x4x64x128 .f32) (d b : Fin 2) (h : Fin 4) (i : Fin 64) (y : Fin 128) :
    shapeCast S2x2x4x64x128 (Host.dynamicSlice S1x2x2x4x64x128 x (fun a => (((![fun _ => BitVec.ofNat 32 k, constantI S_ 32 0#32, constantI S_ 32 0#32, constantI S_ 32 0#32, constantI S_ 32 0#32, constantI S_ 32 0#32]
      : Fin 6 → (⟨S_, .i32⟩ : BufTy).Contents (Elt Ideal))) a (Shape.Idx.first h_S_)).toInt) sliceFits_S257x2x2x4x64x128_S1x2x2x4x64x128) shapeCasts_S1x2x2x4x64x128_S2x2x4x64x128 (ix5 d b h i y)
      = x (ix6 ⟨k, hk⟩ d b h i y) := by
  rw [Host.dynamicSlice_eq_extractStridedSlice _ _ _ _ _ (fits_wide hk) (start_six hk)]
  pointwise []

theorem slice_qe (hk : k < 257) (x : Vec Ideal S257x2x2x4x64x64 .f32) (d b : Fin 2) (h : Fin 4) (i y : Fin 64) :
    shapeCast S2x2x4x64x64 (Host.dynamicSlice S1x2x2x4x64x64 x (fun a => (((![fun _ => BitVec.ofNat 32 k, constantI S_ 32 0#32, constantI S_ 32 0#32, constantI S_ 32 0#32, constantI S_ 32 0#32, constantI S_ 32 0#32]
      : Fin 6 → (⟨S_, .i32⟩ : BufTy).Contents (Elt Ideal))) a (Shape.Idx.first h_S_)).toInt) sliceFits_S257x2x2x4x64x64_S1x2x2x4x64x64) shapeCasts_S1x2x2x4x64x64_S2x2x4x64x64 (ix5 d b h i y)
      = x (ix6 ⟨k, hk⟩ d b h i y) := by
  rw [Host.dynamicSlice_eq_extractStridedSlice _ _ _ _ _ (fits_qe hk) (start_six hk)]
  pointwise []

/-- A chunk's rows written into the outputs. -/
theorem update_at (hk : k < 257) (x : Vec Ideal S257x2x2x4x64x128 .f32) (u : Vec Ideal S1x2x2x4x64x128 .f32) (n : Fin 257) (d b : Fin 2) (h : Fin 4) (i : Fin 64) (y : Fin 128) :
    Host.dynamicUpdateSlice x u (fun a => (((![fun _ => BitVec.ofNat 32 k, constantI S_ 32 0#32, constantI S_ 32 0#32, constantI S_ 32 0#32, constantI S_ 32 0#32, constantI S_ 32 0#32]
      : Fin 6 → (⟨S_, .i32⟩ : BufTy).Contents (Elt Ideal))) a (Shape.Idx.first h_S_)).toInt) updateFits_S257x2x2x4x64x128_S1x2x2x4x64x128 (ix6 n d b h i y)
      = if n.val = k then u (ix6 0 d b h i y) else x (ix6 n d b h i y) := by
  rw [Host.dynamicUpdateSlice_eq_updateSlice _ _ _ _ (![k, 0, 0, 0, 0, 0] : Fin 6 → ℕ) (fun a => by rw [start_six hk]; have := (fits_wide hk).2 a; omega) (fits_wide hk)]
  pointwise []
  by_cases e : n.val = k
  · rw [dif_pos (by omega), if_pos e]
    congr 2
    apply Fin.ext
    show n.val - k = 0
    omega
  · rw [dif_neg (by omega), if_neg e]

theorem bcast_dec (x : Vec Ideal S2x2x4x64 .f32) (d b : Fin 2) (h : Fin 4) (a : Fin 64) (y : Fin 128) :
    broadcastInDim S2x2x4x64x128 ![0, 1, 2, 3, 4] bcast_S2x2x4x64x1_S2x2x4x64x128_0_1_2_3_4
      (broadcastInDim S2x2x4x64x1 ![0, 1, 2, 3] bcast_S2x2x4x64_S2x2x4x64x1_0_1_2_3 x) (ix5 d b h a y) = x (ix4 d b h a) := by
  pointwise []

theorem lift_at (u : Vec Ideal S2x2x4x64x128 .f32) (d b : Fin 2) (h : Fin 4) (i : Fin 64) (y : Fin 128) :
    broadcastInDim S1x2x2x4x64x128 ![1, 2, 3, 4, 5] bcast_S2x2x4x64x128_S1x2x2x4x64x128_1_2_3_4_5 u (ix6 0 d b h i y) = u (ix5 d b h i y) := by
  pointwise []

theorem dot_at (q : Vec Ideal S2x2x4x64x64 .f32) (s : Vec Ideal S2x2x4x64x128 .f32) (d b : Fin 2) (h : Fin 4) (i : Fin 64) (y : Fin 128) :
    (Host.dotGeneral (F := Ideal) (φ₁ := .f32) (φ₂ := .f32) dot_S2x2x4x64x64_S2x2x4x64x128_S2x2x4x64x128_4_3_3_4_012_012 none q s : Vec Ideal S2x2x4x64x128 .f32) (ix5 d b h i y)
      = ∑ x : Fin 64, HMul.hMul (α := EReal) (q (ix5 d b h i x)) (s (ix5 d b h x y)) := by
  pointwise []

theorem Scan.step (hS : Scan V A k) (hk : k < 257) : Scan (STEP V) A (k + 1) where
  inc n d b h x y := by rw [STEP_main_v93_0]; exact hS.inc n d b h x y
  dec n d b h x := by rw [STEP_main_v93_1]; exact hS.dec n d b h x
  qe n d b h i x := by rw [STEP_main_v93_2]; exact hS.qe n d b h i x
  intra n d b h i y := by rw [STEP_main_v93_3]; exact hS.intra n d b h i y
  ctr := by
    rw [STEP_main_v93_4]
    unfold step_main_v93_4
    rw [hS.ctr]
    funext u
    show BitVec.ofNat 32 k + 1#32 = BitVec.ofNat 32 (k + 1)
    rw [BitVec.ofNat_add]
  st d b h x y := by
    rw [STEP_main_v93_5]
    generalize hR : ((stateAt upTo (seq A d b) (k + 1) h x y : ℝ) : EReal) = R
    unfold step_main_v93_5
    rw [hS.ctr]
    refine Eq.trans (congrArg₂ (HAdd.hAdd (α := EReal)) (congrArg₂ (HMul.hMul (α := EReal))
      ((bcast_dec _ d b h x y).trans ((slice_dec hk _ d b h x).trans (hS.dec ⟨k, hk⟩ d b h x))) (hS.st d b h x y))
      ((slice_wide hk _ d b h x y).trans (hS.inc ⟨k, hk⟩ d b h x y))) ?_
    · rw [← hR, ← EReal.coe_mul, ← EReal.coe_add]
      congr 1
      show _ = stateAt upTo (seq A d b) k h x y * Real.exp (tot (seq A d b k) (Gla.hk h x)) + ∑ j, (seq A d b k).v j (hv h y) * kd upTo (seq A d b k) j (Gla.hk h x)
      rw [mul_comm]
      exact congrArg (_ + ·) (Finset.sum_congr rfl fun j _ => mul_comm _ _)
  outs n d b h i y hn := by
    rw [STEP_main_v93_6]
    generalize hR : ((Cert.KernelIdeal.Gla.chunkOut A d b n.val h i y : ℝ) : EReal) = R
    unfold step_main_v93_6
    rw [hS.ctr]
    refine (update_at hk _ _ n d b h i y).trans ?_
    by_cases e : n.val = k
    · rw [if_pos e]
      have e' : n = ⟨k, hk⟩ := Fin.ext e
      rw [← hR, e']
      refine (lift_at _ d b h i y).trans ?_
      refine Eq.trans (congrArg₂ (HAdd.hAdd (α := EReal)) ((slice_wide hk _ d b h i y).trans (hS.intra ⟨k, hk⟩ d b h i y))
        ((dot_at _ _ d b h i y).trans (Finset.sum_congr rfl fun x _ =>
          (congrArg₂ (HMul.hMul (α := EReal)) ((slice_qe hk _ d b h i x).trans (hS.qe ⟨k, hk⟩ d b h i x)) (hS.st d b h x y)).trans (EReal.coe_mul _ _).symm))) ?_
      rw [coe_sum, ← EReal.coe_add]
      rfl
    · rw [if_neg e, ← hR]
      exact hS.outs n d b h i y (by omega)

end Cert.ReferenceIdeal.Gla
end
-- ==== Proof.RefOut.lean ====
/-
  The reference's two results: the scan's outputs, each row at its token's place.
-/
module

public import proofs.«01_k».proof.Proof.RefLoop
public import proofs.«01_k».proof.Proof.Result

@[expose] public section

set_option maxRecDepth 16384

noncomputable section

namespace Cert.ReferenceIdeal.Gla

open Idealize.ShloMosaic Idealize.ShloMosaic.TcCoe Idealize.SL.Sem Cert.Gla
open Cert.ReferenceIdeal Cert.ReferenceIdeal.Gen Cert.ReferenceIdeal.Value
open Idealize.ShloMosaic.StableHlo

variable {A : Args}

/-- The scan starts from the zero states. -/
theorem scan_entry {V : Valuation τ sig (Elt Ideal)} (hC : Chunked V A) (hc : V3 V (Proc.devRef .tc main_v93_4) = fun _ => (0#32 : BitVec 32)) : Scan (V3 V) A 0 where
  inc := inc_entry hC
  dec := dec_entry hC
  qe := qe_entry hC
  intra := intra_entry hC
  ctr := hc
  st := zero_entry hC
  outs _ _ _ _ _ _ h := absurd h (Nat.not_lt_zero _)

theorem scan_iter {V : Valuation τ sig (Elt Ideal)} (h : Scan V A 0) : ∀ k, k ≤ 257 → Scan (STEP^[k] V) A k
  | 0, _ => h
  | k + 1, hk => by
    rw [Function.iterate_succ_apply']
    exact (scan_iter h k (by omega)).step (by omega)

/-- What the scan leaves, from arguments that hold the real numbers of `A`. -/
theorem scan_done (m : (ℓ : Loc nD τ sig) → Buf (Elt Ideal) ℓ) (c : Dev nD) (hA : Reals (launchContents m c) A) :
    Scan (STEP^[257] (entryContents preI m c)) A 257 := by
  have e : entryContents (F := Ideal) preI m c = V3 (after hostOps0_19 (V1 (launchContents m c))) := rfl
  refine scan_iter ?_ 257 le_rfl
  have hc := ctr_entry m c
  rw [e] at hc ⊢
  exact scan_entry (chunked hA) hc

variable {V : Valuation τ sig (Elt Ideal)} (hS : Scan V A 257)
include hS

/-- A row's output, at any index that names it. -/
theorem row_at (d b : Fin 2) (R : ℕ) (h496 : ¬R < 496) (w : Fin 512) (n : Fin 257) (d' b' : Fin 2) (h : Fin 4) (i : Fin 64) (y : Fin 128)
    (hd : d' = d) (hb : b' = b) (hn : 64 * n.val + i.val = tok d (R - 496) + 48) (hw : 128 * h.val + y.val = w.val) :
    V (Proc.devRef .tc main_v93_6) (ix6 n d' b' h i y) = (result A d b R w : EReal) := by
  rw [hd, hb, hS.outs _ _ _ _ _ _ n.isLt]
  unfold result
  rw [if_neg h496]
  have e1 : n.val = (tok d (R - 496) + 48) / 64 := by omega
  have e2 : i = ⟨(tok d (R - 496) + 48) % 64, Nat.mod_lt _ (by norm_num)⟩ := Fin.ext (by show i.val = (tok d (R - 496) + 48) % 64; omega)
  have e3 : h = ⟨w.val / 128, by omega⟩ := Fin.ext (by show h.val = w.val / 128; omega)
  have e4 : y = ⟨w.val % 128, Nat.mod_lt _ (by norm_num)⟩ := Fin.ext (by show y.val = w.val % 128; omega)
  rw [e1, e2, e3, e4]

theorem out_zero_at (b : Fin 2) (R : Fin 16896) (w : Fin 512) : out_main_v101 V (ix3 b R w) = (result A 0 b R.val w : EReal) := by
  have hz : R.val < 496 → ((result A 0 b R.val w : ℝ) : EReal) = 0 := fun h => by unfold result; rw [if_pos h]; rfl
  have hr := fun h => row_at hS 0 b R.val h w
  generalize ((result A 0 b R.val w : ℝ) : EReal) = Q at hr hz ⊢
  rw [← post_main_v101]
  unfold postI
  simp only [afterL_cons, afterL_nil]
  after_reads_at
  by_cases h : R.val < 496
  · rw [dif_neg (by omega), hz h, sitofp_zero]
  · rw [dif_pos (by omega)]
    refine hr h _ _ _ _ _ _ rfl rfl ?_ ?_
    · have e := tok_zero (d := 0) (by decide) (R.val - 496)
      show 64 * ((48 + (R.val - 496)) / 64) + (48 + (R.val - 496)) % 64 = _
      omega
    · show 128 * (w.val / 128) + w.val % 128 = w.val
      omega

theorem out_one_at (b : Fin 2) (R : Fin 16896) (w : Fin 512) : out_main_v108 V (ix3 b R w) = (result A 1 b R.val w : EReal) := by
  have hz : R.val < 496 → ((result A 1 b R.val w : ℝ) : EReal) = 0 := fun h => by unfold result; rw [if_pos h]; rfl
  have hr := fun h => row_at hS 1 b R.val h w
  generalize ((result A 1 b R.val w : ℝ) : EReal) = Q at hr hz ⊢
  rw [← post_main_v108]
  unfold postI
  simp only [afterL_cons, afterL_nil]
  after_reads_at
  by_cases h : R.val < 496
  · rw [dif_neg (by omega), hz h, sitofp_zero]
  · rw [dif_pos (by omega)]
    by_cases hs : R.val - 496 < 16
    · rw [dif_pos hs]
      after_reads_at
      refine hr h _ _ _ _ _ _ rfl rfl ?_ ?_
      · have e := tok_early 1 hs
        show 64 * ((48 + (R.val - 496)) / 64) + (48 + (R.val - 496)) % 64 = _
        omega
      · show 128 * (w.val / 128) + w.val % 128 = w.val
        omega
    · rw [dif_neg hs]
      after_reads_at
      refine hr h _ _ _ _ _ _ rfl (if_neg (by decide)) ?_ ?_
      · have e := tok_late (d := 1) (by decide) hs
        refine (congrArg (fun f : Fin 16384 => 64 * ((48 + (16 + f.val)) / 64) + (48 + (16 + f.val)) % 64) (if_pos (by decide))).trans ?_
        refine (congrArg (fun f : ℕ => 64 * ((48 + (16 + f)) / 64) + (48 + (16 + f)) % 64) (Fin.val_rev _)).trans ?_
        show 64 * ((48 + (16 + (16384 - (R.val - 496 - 16 + 1)))) / 64) + (48 + (16 + (16384 - (R.val - 496 - 16 + 1)))) % 64 = _
        omega
      · refine (congrArg (fun f : Fin 512 => 128 * (f.val / 128) + f.val % 128) (if_neg (by decide))).trans ?_
        show 128 * (w.val / 128) + w.val % 128 = w.val
        omega

end Cert.ReferenceIdeal.Gla
end
-- ==== Proof.Proj.lean ====
/-
  The input projection on extended reals: a row divided by its root mean square, scaled, and multiplied with a column.
-/
module

public import Idealize.ShloMosaic.Lib.Pointwise

@[expose] public section

noncomputable section

namespace Cert.Proj

open Idealize.ShloMosaic

/-- Entry `k` of the normalised row. -/
def normed (row g : Fin 1024 → EReal) (k : Fin 1024) : EReal :=
  row k * Ideal.rsqrt (Ideal.div (∑ l, row l * row l) (Ideal.ofBits .f32 0x44800000#32) + Ideal.ofBits .f32 0x358637BD#32) * g k

/-- The normalised row times a column. -/
def proj (row g col : Fin 1024 → EReal) : EReal := ∑ k, normed row g k * col k

/-- A row of zeros has only zeros as products. -/
theorem proj_zero_row (row g col : Fin 1024 → EReal) (h : ∀ k, row k = 0) : proj row g col = 0 :=
  Finset.sum_eq_zero fun k _ => by rw [normed, h, zero_mul, zero_mul, zero_mul]

theorem proj_zero_col (row g col : Fin 1024 → EReal) (h : ∀ k, col k = 0) : proj row g col = 0 :=
  Finset.sum_eq_zero fun k _ => by rw [h, mul_zero]

/-- What the projection takes: the residual rows of the two sequences, the norm's scale and the weights. -/
structure Args where
  x : Fin 2 → Fin 16400 → Fin 1024 → EReal
  g : Fin 1024 → EReal
  w : Fin 1024 → Fin 5920 → EReal

/-- Row `R` of the two padded sequences, one after the other: 496 rows of zeros, then the sequence's. -/
def Args.row (A : Args) (R : Fin 33792) (k : Fin 1024) : EReal :=
  if h : 496 ≤ R.val % 16896 then A.x ⟨R.val / 16896, by omega⟩ ⟨R.val % 16896 - 496, by omega⟩ k else 0

theorem Args.row_real (A : Args) (R : Fin 33792) (h : 496 ≤ R.val % 16896) : A.row R = A.x ⟨R.val / 16896, by omega⟩ ⟨R.val % 16896 - 496, by omega⟩ :=
  funext fun _ => dif_pos h

theorem Args.row_pad (A : Args) (R : Fin 33792) (h : ¬496 ≤ R.val % 16896) (k : Fin 1024) : A.row R k = 0 := dif_neg h

/-- The columns of the attention. -/
def Args.colA (A : Args) (j : Fin 2048) (k : Fin 1024) : EReal := A.w k ⟨j.val, by omega⟩

/-- The columns of the gated linear attention, padded with zeros. -/
def Args.colB (A : Args) (j : Fin 1664) (k : Fin 1024) : EReal := if h : j.val < 1568 then A.w k ⟨2048 + j.val, by omega⟩ else 0

theorem Args.colB_real (A : Args) (j : Fin 1664) (h : j.val < 1568) : A.colB j = fun k => A.w k ⟨2048 + j.val, by omega⟩ := funext fun _ => dif_pos h

theorem Args.colB_pad (A : Args) (j : Fin 1664) (h : ¬j.val < 1568) (k : Fin 1024) : A.colB j k = 0 := dif_neg h

/-- The place of a column of the third mixer among its weights: the gate's columns are taken before the last 256. -/
def place (j : Fin 2304) : Fin 2304 := if h : j.val < 1536 then j else if h' : j.val < 2048 then ⟨j.val + 256, by omega⟩ else ⟨j.val - 512, by omega⟩

/-- The columns of the third mixer. -/
def Args.colC (A : Args) (j : Fin 2304) (k : Fin 1024) : EReal := A.w k ⟨3616 + (place j).val, by omega⟩

end Cert.Proj
end
-- ==== Proof.ProjKernel.lean ====
/-
  The three arrays of the input projection's kernel: each entry the product of a normalised row with a column.
-/
module

public import proofs.«01_k».proof.Proof.Proj
public import proofs.«01_k».proof.Proof.Gen.InProjIdeal.Value
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.InProjIdeal.Proj

open Idealize.ShloMosaic Idealize.ShloMosaic.TcCoe Idealize.SL.Sem Cert.Proj
open Cert.InProjIdeal Cert.InProjIdeal.Gen

/-! ## One tile -/

variable (x : Vec Ideal S256x1024 .f32) (g : Vec Ideal S1x1024 .f32)

theorem tileA (w : Vec Ideal S1024x2048 .bf16) (r : Fin 256) (j : Fin 2048) :
    k0_pay2 x g w (ix2 r j) = proj (fun k => x (ix2 r k)) (fun k => g (ix2 0 k)) fun k => w (ix2 k j) := by
  unfold proj normed
  pointwise [k0_pay2, k0_pay1]

theorem tileB (w : Vec Ideal S1024x1664 .bf16) (r : Fin 256) (j : Fin 1664) :
    k0_pay3 x g w (ix2 r j) = proj (fun k => x (ix2 r k)) (fun k => g (ix2 0 k)) fun k => w (ix2 k j) := by
  unfold proj normed
  pointwise [k0_pay3, k0_pay1]

theorem tileC (w : Vec Ideal S1024x2304 .bf16) (r : Fin 256) (j : Fin 2304) :
    k0_pay4 x g w (ix2 r j) = proj (fun k => x (ix2 r k)) (fun k => g (ix2 0 k)) fun k => w (ix2 k j) := by
  unfold proj normed
  pointwise [k0_pay4, k0_pay1]

/-! ## What the launch reads -/

variable (m : (ℓ : Loc nD τ sig) → Buf (Elt Ideal) ℓ) (c : Dev nD)

/-- The arguments as functions. -/
def args : Args where
  x b s k := m ((c : Thread nD τ).loc main_arg0) (ix3 b s k)
  g k := m ((c : Thread nD τ).loc main_arg1) (ix1 k)
  w k j := m ((c : Thread nD τ).loc main_arg2) (ix2 k j)

theorem entry_rows (R : Fin 33792) (k : Fin 1024) : V m c main_v13 (ix2 R k) = (args m c).row R k := by
  unfold V Args.row args
  after_reads_at
  by_cases h : R.val % 16896 < 496
  · rw [dif_pos h, dif_neg (by omega)]
    after_reads_at
  · rw [dif_neg h, dif_pos (by omega)]
    after_reads_at

theorem entry_scale (k : Fin 1024) : V m c main_v14 (ix2 0 k) = (args m c).g k := by
  unfold V args
  after_reads_at

theorem entryA (k : Fin 1024) (j : Fin 2048) : V m c main_v3 (ix2 k j) = (args m c).colA j k := by
  unfold V Args.colA args
  after_reads_at

theorem entryB (k : Fin 1024) (j : Fin 1664) : V m c main_v6 (ix2 k j) = (args m c).colB j k := by
  unfold V Args.colB args
  after_reads_at
  rw [show FloatOps.sitofp (F := Ideal) FTy.f32 (0#32) = (0 : EReal) from by
    show ((((0#32 : BitVec 32).toInt : ℝ)) : EReal) = 0
    simp]

theorem entryC (k : Fin 1024) (j : Fin 2304) : V m c main_v12 (ix2 k j) = (args m c).colC j k := by
  unfold Args.colC args
  generalize hq : (⟨3616 + (place j).val, _⟩ : Fin 5920) = q
  have hv : q.val = 3616 + (place j).val := by rw [← hq]
  unfold place at hv
  unfold V
  after_reads_at
  by_cases h : j.val < 1536
  · rw [dif_pos h] at hv ⊢
    after_reads_at
    congr 2; apply Fin.ext; simp only; omega
  · rw [dif_neg h] at hv ⊢
    by_cases h' : j.val < 2048
    · rw [dif_pos h'] at hv
      rw [dif_pos (by omega)]
      after_reads_at
      congr 2; apply Fin.ext; simp only at hv ⊢; omega
    · rw [dif_neg h'] at hv
      rw [dif_neg (by omega)]
      after_reads_at
      congr 2; apply Fin.ext; simp only at hv ⊢; omega

theorem index_rows : ∀ t : Fin cfg0.N, win0_0.index t = ![t.val, 0] := by decide +kernel
theorem index_scale : ∀ t : Fin cfg0.N, win0_1.index t = ![0, 0] := by decide +kernel
theorem indexA : ∀ t : Fin cfg0.N, win0_2.index t = ![0, 0] := by decide +kernel
theorem indexB : ∀ t : Fin cfg0.N, win0_3.index t = ![0, 0] := by decide +kernel
theorem indexC : ∀ t : Fin cfg0.N, win0_4.index t = ![0, 0] := by decide +kernel
theorem indexOutA : ∀ t : Fin cfg0.N, win0_5.index t = ![t.val, 0] := by decide +kernel
theorem indexOutB : ∀ t : Fin cfg0.N, win0_6.index t = ![t.val, 0] := by decide +kernel
theorem indexOutC : ∀ t : Fin cfg0.N, win0_7.index t = ![t.val, 0] := by decide +kernel

theorem lt_points (t : Fin cfg0.N) : t.val < 132 := t.isLt

/-! ## The windows' blocks at a grid point -/

theorem blk_rows (t : Fin cfg0.N) (r : Fin 256) (k : Fin 1024) :
    iblk m c 0 t (ix2 r k) = (args m c).row ⟨256 * t.val + r.val, by have := lt_points t; omega⟩ k := by
  refine Eq.trans (congrArg (V m c main_v13) (?_ : _ = ix2 ⟨256 * t.val + r.val, by have := lt_points t; omega⟩ k)) (entry_rows m c _ k)
  refine funext fun a => Fin.ext ?_
  blk_simp [index_rows]
  fin_cases a <;> simp <;> omega

theorem blk_scale (t : Fin cfg0.N) (k : Fin 1024) : iblk m c 1 t (ix2 0 k) = (args m c).g k := by
  refine Eq.trans (congrArg (V m c main_v14) (?_ : _ = ix2 0 k)) (entry_scale m c k)
  refine funext fun a => Fin.ext ?_
  blk_simp [index_scale]
  fin_cases a <;> simp

theorem blkA (t : Fin cfg0.N) (k : Fin 1024) (j : Fin 2048) : iblk m c 2 t (ix2 k j) = (args m c).colA j k := by
  refine Eq.trans (congrArg (V m c main_v3) (?_ : _ = ix2 k j)) (entryA m c k j)
  refine funext fun a => Fin.ext ?_
  blk_simp [indexA]
  fin_cases a <;> simp

theorem blkB (t : Fin cfg0.N) (k : Fin 1024) (j : Fin 1664) : iblk m c 3 t (ix2 k j) = (args m c).colB j k := by
  refine Eq.trans (congrArg (V m c main_v6) (?_ : _ = ix2 k j)) (entryB m c k j)
  refine funext fun a => Fin.ext ?_
  blk_simp [indexB]
  fin_cases a <;> simp

theorem blkC (t : Fin cfg0.N) (k : Fin 1024) (j : Fin 2304) : iblk m c 4 t (ix2 k j) = (args m c).colC j k := by
  refine Eq.trans (congrArg (V m c main_v12) (?_ : _ = ix2 k j)) (entryC m c k j)
  refine funext fun a => Fin.ext ?_
  blk_simp [indexC]
  fin_cases a <;> simp

/-! ## The arrays -/

def arrA : Vec Ideal S33792x2048 .f32 := fun y => proj ((args m c).row (y 0)) (args m c).g ((args m c).colA (y 1))
def arrB : Vec Ideal S33792x1664 .f32 := fun y => proj ((args m c).row (y 0)) (args m c).g ((args m c).colB (y 1))
def arrC : Vec Ideal S33792x2304 .f32 := fun y => proj ((args m c).row (y 0)) (args m c).g ((args m c).colC (y 1))

theorem embA (t : Fin cfg0.N) (r : Fin 256) (j : Fin 2048) :
    (win0_5.blk t).view.emb (ix2 r j) = ix2 ⟨256 * t.val + r.val, by have := lt_points t; omega⟩ j := by
  refine funext fun a => Fin.ext ?_
  blk_simp [indexOutA]
  fin_cases a <;> simp <;> omega

theorem embB (t : Fin cfg0.N) (r : Fin 256) (j : Fin 1664) :
    (win0_6.blk t).view.emb (ix2 r j) = ix2 ⟨256 * t.val + r.val, by have := lt_points t; omega⟩ j := by
  refine funext fun a => Fin.ext ?_
  blk_simp [indexOutB]
  fin_cases a <;> simp <;> omega

theorem embC (t : Fin cfg0.N) (r : Fin 256) (j : Fin 2304) :
    (win0_7.blk t).view.emb (ix2 r j) = ix2 ⟨256 * t.val + r.val, by have := lt_points t; omega⟩ j := by
  refine funext fun a => Fin.ext ?_
  blk_simp [indexOutC]
  fin_cases a <;> simp <;> omega

/-- A block's corner at the origin. -/
theorem origin : (![0, 0] : Fin 2 → ℕ) = fun _ => 0 := funext fun a => by fin_cases a <;> rfl

theorem resultA : (dats m 0 c).arrAt 5 cfg0.N = arrA m c := by
  refine (dats m 0 c).arrAt_eq_of_covers 5 _ (by decide +kernel) fun t hf y => ?_
  blk_simp
  rw [after0_5]
  obtain ⟨r, j, rfl⟩ : ∃ (r : Fin 256) (j : Fin 2048), y = ix2 r j := ⟨y 0, y 1, funext fun a => by fin_cases a <;> rfl⟩
  refine Eq.trans ?_ (congrArg (arrA m c) (embA t r j)).symm
  have e := tileA (iblk m c 0 t) (iblk m c 1 t) (iblk m c 2 t) r j
  simp only [blk_rows, blk_scale, blkA] at e
  refine Eq.trans ?_ e
  unfold out0_5
  rw [View.canon_unit_zero origin, View.ld_unit_zero origin, View.ld_unit_zero origin, View.ld_unit_zero origin]

theorem resultB : (dats m 0 c).arrAt 6 cfg0.N = arrB m c := by
  refine (dats m 0 c).arrAt_eq_of_covers 6 _ (by decide +kernel) fun t hf y => ?_
  blk_simp
  rw [after0_6]
  obtain ⟨r, j, rfl⟩ : ∃ (r : Fin 256) (j : Fin 1664), y = ix2 r j := ⟨y 0, y 1, funext fun a => by fin_cases a <;> rfl⟩
  refine Eq.trans ?_ (congrArg (arrB m c) (embB t r j)).symm
  have e := tileB (iblk m c 0 t) (iblk m c 1 t) (iblk m c 3 t) r j
  simp only [blk_rows, blk_scale, blkB] at e
  refine Eq.trans ?_ e
  unfold out0_6
  rw [View.canon_unit_zero origin, View.ld_unit_zero origin, View.ld_unit_zero origin, View.ld_unit_zero origin]

theorem resultC : (dats m 0 c).arrAt 7 cfg0.N = arrC m c := by
  refine (dats m 0 c).arrAt_eq_of_covers 7 _ (by decide +kernel) fun t hf y => ?_
  blk_simp
  rw [after0_7]
  obtain ⟨r, j, rfl⟩ : ∃ (r : Fin 256) (j : Fin 2304), y = ix2 r j := ⟨y 0, y 1, funext fun a => by fin_cases a <;> rfl⟩
  refine Eq.trans ?_ (congrArg (arrC m c) (embC t r j)).symm
  have e := tileC (iblk m c 0 t) (iblk m c 1 t) (iblk m c 4 t) r j
  simp only [blk_rows, blk_scale, blkC] at e
  refine Eq.trans ?_ e
  unfold out0_7
  rw [View.canon_unit_zero origin, View.ld_unit_zero origin, View.ld_unit_zero origin, View.ld_unit_zero origin]

end Cert.InProjIdeal.Proj
end
-- ==== Proof.ProjRef.lean ====
/-
  The reference's three arrays of the input projection, entry by entry.
-/
module

public import proofs.«01_k».proof.Proof.Proj
public import proofs.«01_k».proof.Proof.Gen.InProjRefIdeal.Run
public import Idealize.ShloMosaic.Lib.StableHlo.ReadAt
public import Idealize.ShloMosaic.Lib.ValueIdx

@[expose] public section

set_option maxRecDepth 16384

noncomputable section

namespace Cert.InProjRefIdeal.Proj

open Idealize.ShloMosaic Idealize.ShloMosaic.TcCoe Idealize.SL.Sem Cert.Proj
open Cert.InProjRefIdeal Cert.InProjRefIdeal.Gen

/-- The projection's arrays with columns `col`. -/
def arr {n : ℕ} (A : Args) (col : Fin n → Fin 1024 → EReal) : Vec Ideal ⟨2, ![33792, n]⟩ .f32 := fun y => proj (A.row (y 0)) A.g (col (y 1))

variable (m : (ℓ : Loc nD τ sig) → Buf (Elt Ideal) ℓ) (c : Dev nD)

/-- The arguments as functions. -/
def args : Args where
  x b s k := m ((c : Thread nD τ).loc main_arg0) (ix3 b s k)
  g k := m ((c : Thread nD τ).loc main_arg1) (ix1 k)
  w k j := m ((c : Thread nD τ).loc main_arg2) (ix2 k j)

theorem zero_word : FloatOps.sitofp (F := Ideal) FTy.f32 (0#32) = (0 : EReal) := by
  show ((((0#32 : BitVec 32).toInt : ℝ)) : EReal) = 0
  simp

/-- A product of the projection, written out over the argument arrays. -/
theorem sum_eq (b : Fin 2) (t : Fin 16400) (n : Fin 5920) :
    (∑ k, HMul.hMul (α := EReal) (HMul.hMul (α := EReal) (HMul.hMul (α := EReal) (m ((c : Thread nD τ).loc main_arg0) (ix3 b t k))
      (Ideal.rsqrt (Ideal.div (∑ l, HMul.hMul (α := EReal) (m ((c : Thread nD τ).loc main_arg0) (ix3 b t l)) (m ((c : Thread nD τ).loc main_arg0) (ix3 b t l)))
        (Ideal.ofBits FTy.f32 0x44800000#32) + Ideal.ofBits FTy.f32 0x358637BD#32)))
      (m ((c : Thread nD τ).loc main_arg1) (ix1 k))) (m ((c : Thread nD τ).loc main_arg2) (ix2 k n)) : EReal)
      = proj ((args m c).x b t) (args m c).g fun k => (args m c).w k n := by
  simp only [proj, normed, args]

theorem run (ρ : Dev nD → PrngReg) : θ_run defs (onTc (τ := τ) (main (F := Ideal))) ⟨m, fun _ => 0, ρ⟩ fun r => ∀ c : Dev nD,
    r.2.mem ((c.tc : Thread nD τ).loc main_v25) = arr (args m c) (args m c).colA
    ∧ r.2.mem ((c.tc : Thread nD τ).loc main_v27) = arr (args m c) (args m c).colB
    ∧ r.2.mem ((c.tc : Thread nD τ).loc main_v29) = arr (args m c) (args m c).colC
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run defs _ _).mono (fun r h c => ?_) (Value.run m ρ)
  obtain ⟨h0, h1, h2, k⟩ := h c
  refine ⟨h0.trans (funext fun y => ?_), h1.trans (funext fun y => ?_), h2.trans (funext fun y => ?_), k⟩ <;> clear h0 h1 h2 k h
  · obtain ⟨R, j, rfl⟩ : ∃ (R : Fin 33792) (j : Fin 2048), y = ix2 R j := ⟨y 0, y 1, funext fun a => by fin_cases a <;> rfl⟩
    show _ = proj ((args m c).row R) (args m c).g ((args m c).colA j)
    generalize hQ : proj ((args m c).row R) (args m c).g ((args m c).colA j) = Q
    pointwise []
    by_cases h : 496 ≤ R.val % 16896
    · refine (dif_pos (⟨by omega, h, by omega⟩ : R.val / 16896 < 2 ∧ 496 ≤ R.val % 16896 ∧ R.val % 16896 - 496 < 16400)).trans ?_
      refine Eq.trans ?_ ((congrArg (fun f => proj f _ _) ((args m c).row_real R h).symm).trans hQ)
      exact sum_eq m c _ _ _
    · refine (dif_neg fun h' => h h'.2.1).trans (zero_word.trans ?_)
      exact (proj_zero_row _ _ _ ((args m c).row_pad R h)).symm.trans hQ
  · obtain ⟨R, j, rfl⟩ : ∃ (R : Fin 33792) (j : Fin 1664), y = ix2 R j := ⟨y 0, y 1, funext fun a => by fin_cases a <;> rfl⟩
    show _ = proj ((args m c).row R) (args m c).g ((args m c).colB j)
    generalize hQ : proj ((args m c).row R) (args m c).g ((args m c).colB j) = Q
    pointwise []
    by_cases h : 496 ≤ R.val % 16896
    · refine (dif_pos (⟨by omega, h, by omega⟩ : R.val / 16896 < 2 ∧ 496 ≤ R.val % 16896 ∧ R.val % 16896 - 496 < 16400)).trans ?_
      refine Eq.trans ?_ ((congrArg (fun f => proj f _ _) ((args m c).row_real R h).symm).trans hQ)
      by_cases hj : j.val < 1568
      · rw [dif_pos (by omega)]
        have e := congrArg (proj ((args m c).x ⟨R.val / 16896, by omega⟩ ⟨R.val % 16896 - 496, by omega⟩) (args m c).g) ((args m c).colB_real j hj)
        exact (sum_eq m c ⟨R.val / 16896, by omega⟩ ⟨R.val % 16896 - 496, by omega⟩ ⟨2048 + j.val, by omega⟩).trans e.symm
      · rw [dif_neg (by omega)]
        exact zero_word.trans (proj_zero_col _ _ _ ((args m c).colB_pad j hj)).symm
    · refine (dif_neg fun h' => h h'.2.1).trans (zero_word.trans ?_)
      exact (proj_zero_row _ _ _ ((args m c).row_pad R h)).symm.trans hQ
  · obtain ⟨R, j, rfl⟩ : ∃ (R : Fin 33792) (j : Fin 2304), y = ix2 R j := ⟨y 0, y 1, funext fun a => by fin_cases a <;> rfl⟩
    show _ = proj ((args m c).row R) (args m c).g ((args m c).colC j)
    generalize hQ : proj ((args m c).row R) (args m c).g ((args m c).colC j) = Q
    pointwise []
    by_cases h : 496 ≤ R.val % 16896
    · refine (dif_pos (⟨by omega, h, by omega⟩ : R.val / 16896 < 2 ∧ 496 ≤ R.val % 16896 ∧ R.val % 16896 - 496 < 16400)).trans ?_
      refine Eq.trans ?_ ((congrArg (fun f => proj f _ _) ((args m c).row_real R h).symm).trans hQ)
      have key : ∀ n (hn : n < 5920), n = 3616 + (place j).val →
          proj ((args m c).x ⟨R.val / 16896, by omega⟩ ⟨R.val % 16896 - 496, by omega⟩) (args m c).g (fun k => (args m c).w k ⟨n, hn⟩)
            = proj ((args m c).x ⟨R.val / 16896, by omega⟩ ⟨R.val % 16896 - 496, by omega⟩) (args m c).g ((args m c).colC j) := by
        rintro n hn rfl
        rfl
      by_cases h1 : j.val < 1536
      · rw [dif_pos h1]
        exact (sum_eq m c _ _ _).trans (key _ _ (by rw [place, dif_pos h1]))
      · rw [dif_neg h1]
        by_cases h2 : j.val < 2048
        · rw [dif_pos (by omega)]
          exact (sum_eq m c _ _ _).trans (key _ _ (by rw [place, dif_neg h1, dif_pos h2]; simp only; omega))
        · rw [dif_neg (by omega)]
          exact (sum_eq m c _ _ _).trans (key _ _ (by rw [place, dif_neg h1, dif_neg h2]; simp only; omega))
    · refine (dif_neg fun h' => h h'.2.1).trans (zero_word.trans ?_)
      exact (proj_zero_row _ _ _ ((args m c).row_pad R h)).symm.trans hQ

end Cert.InProjRefIdeal.Proj
end
-- ==== Proof.Mix.lean ====
/-
  The output projection on extended reals: the two mixers' norms and gates, the three mixers side by side times the weights,
  the residual, and the final norm.
-/
module

public import Idealize.ShloMosaic.Lib.Pointwise
public import proofs.«01_k».proof.Proof.Unit

@[expose] public section

noncomputable section

namespace Cert.Mix

open Idealize.ShloMosaic

/-- The gate's factor: a number times its logistic. -/
def silu (x : EReal) : EReal := x * Ideal.div 1 (1 + Ideal.exp (-x))

/-- The gated linear attention's part: each entry divided by the root mean square of its head of 128 entries, scaled and gated. -/
def gla (a gate : Fin 512 → EReal) (gn : Fin 128 → EReal) (k : Fin 512) : EReal :=
  a k * Ideal.rsqrt (Ideal.div (∑ x : Fin 128, a ⟨k.val / 128 * 128 + x.val, by omega⟩ * a ⟨k.val / 128 * 128 + x.val, by omega⟩)
    (Ideal.ofBits .f32 0x43000000#32) + Ideal.ofBits .f32 0x3727C5AC#32) * gn ⟨k.val % 128, by omega⟩ * silu (gate k)

/-- The mean of a head of 64 entries. -/
def mean (y : Fin 512 → EReal) (q : Fin 8) : EReal := Ideal.div (∑ x : Fin 64, y ⟨q.val * 64 + x.val, by omega⟩) (Ideal.ofBits .f32 0x42800000#32)

/-- A head's variance: the mean of the squares of its entries less their mean. -/
def var (y : Fin 512 → EReal) (q : Fin 8) : EReal :=
  Ideal.div (∑ x : Fin 64, (y ⟨q.val * 64 + x.val, by omega⟩ - mean y q) * (y ⟨q.val * 64 + x.val, by omega⟩ - mean y q)) (Ideal.ofBits .f32 0x42800000#32)

/-- The third mixer's part: each entry normalised over its head, scaled and shifted, with the bonus, gated. -/
def rw7 (y bonus gate lg lb : Fin 512 → EReal) (k : Fin 512) : EReal :=
  ((y k - mean y ⟨k.val / 64, by omega⟩) * Ideal.rsqrt (var y ⟨k.val / 64, by omega⟩ + Ideal.ofBits .f32 0x3A27C5AC#32) * lg k + lb k + bonus k)
    * silu (gate k)

/-- The three mixers' entries side by side. -/
def cat (u v w : Fin 512 → EReal) (k : Fin 1536) : EReal :=
  if h : k.val < 512 then u ⟨k.val, h⟩ else if h' : k.val - 512 < 512 then v ⟨k.val - 512, by omega⟩ else w ⟨k.val - 512 - 512, by omega⟩

/-- The residual row plus the mixers' row times the weights. -/
def resid (h : Fin 1024 → EReal) (z : Fin 1536 → EReal) (w : Fin 1536 → Fin 1024 → EReal) (j : Fin 1024) : EReal := h j + ∑ k, z k * w k j

/-- The final norm of a row. -/
def final (r g : Fin 1024 → EReal) (j : Fin 1024) : EReal :=
  r j * Ideal.rsqrt (Ideal.div (∑ l, r l * r l) (Ideal.ofBits .f32 0x44800000#32) + Ideal.ofBits .f32 0x358637BD#32) * g j

/-- One row of the result. -/
def row (h : Fin 1024 → EReal) (o a ag y bonus yg : Fin 512 → EReal) (w : Fin 1536 → Fin 1024 → EReal) (gn : Fin 128 → EReal) (lg lb : Fin 512 → EReal)
    (g : Fin 1024 → EReal) : Fin 1024 → EReal :=
  final (resid h (cat o (gla a ag gn) (rw7 y bonus yg lg lb)) w) g

/-! ## A head's mean as a product with a block diagonal table -/

theorem ofBits_sixtyfour : Ideal.ofBits .f32 0x42800000#32 = ((64 : ℝ) : EReal) := by
  simp [Ideal.ofBits, Ideal.ieee, -EReal.coe_mul]; norm_num

theorem ofBits_sixtyfourth : Ideal.ofBits .f32 0x3C800000#32 = ((1 / 64 : ℝ) : EReal) := by
  simp [Ideal.ofBits, Ideal.ieee, -EReal.coe_mul]; norm_num

/-- A sum over 512 entries by heads of 64. -/
theorem sum_heads {M : Type} [AddCommMonoid M] (f : Fin 512 → M) : ∑ k, f k = ∑ q : Fin 8, ∑ x : Fin 64, f ⟨q.val * 64 + x.val, by omega⟩ := by
  rw [← Fintype.sum_prod_type' (f := fun (q : Fin 8) (x : Fin 64) => f ⟨q.val * 64 + x.val, by omega⟩)]
  refine (Equiv.sum_comp (finProdFinEquiv (m := 8) (n := 64)) f).symm.trans (Finset.sum_congr rfl fun p _ => ?_)
  refine congrArg f (Fin.ext ?_)
  show p.2.val + 64 * p.1.val = p.1.val * 64 + p.2.val
  omega

/-- The table that a head's mean is taken by. -/
def table (k j : Fin 512) : EReal := if k.val / 64 = j.val / 64 then ((1 / 64 : ℝ) : EReal) else 0

theorem mean_coe (y : Fin 512 → ℝ) (q : Fin 8) : mean (fun k => (y k : EReal)) q = (((∑ x : Fin 64, y ⟨q.val * 64 + x.val, by omega⟩) / 64 : ℝ) : EReal) := by
  unfold mean
  rw [Cert.Gla.coe_sum, ofBits_sixtyfour, Ideal.div_coe (by norm_num), ← EReal.coe_mul]
  congr 1; ring

theorem sum_table (y : Fin 512 → ℝ) (j : Fin 512) : ∑ k, (y k : EReal) * table k j = mean (fun k => (y k : EReal)) ⟨j.val / 64, by omega⟩ := by
  rw [mean_coe, sum_heads, Finset.sum_eq_single (⟨j.val / 64, by omega⟩ : Fin 8)]
  · rw [Finset.sum_div, ← Cert.Gla.coe_sum]
    refine Finset.sum_congr rfl fun x _ => ?_
    have e : table ⟨j.val / 64 * 64 + x.val, by omega⟩ j = ((1 / 64 : ℝ) : EReal) := if_pos (by show (j.val / 64 * 64 + x.val) / 64 = _; omega)
    rw [e, ← EReal.coe_mul]
    congr 1; ring
  · intro q _ hq
    refine Finset.sum_eq_zero fun x _ => ?_
    have e : table ⟨q.val * 64 + x.val, by omega⟩ j = 0 := if_neg fun h => hq (Fin.ext (by show q.val = j.val / 64; have h : (q.val * 64 + x.val) / 64 = j.val / 64 := h; omega))
    rw [e, mul_zero]
  · exact fun h => absurd (Finset.mem_univ _) h

/-- The mean by the table, of a row split into a high and a low part. -/
theorem split_table (y : Fin 512 → ℝ) (j : Fin 512) :
    ∑ k, (y k : EReal) * table k j + ∑ k, ((y k : EReal) - (y k : EReal)) * table k j = mean (fun k => (y k : EReal)) ⟨j.val / 64, by omega⟩ := by
  rw [sum_table]
  simp only [Cert.Gla.coe_sub_self, zero_mul, Finset.sum_const_zero, add_zero]

/-- A head's variance is the mean of the squares of the entries less their heads' means. -/
theorem var_eq (y : Fin 512 → EReal) (q : Fin 8) :
    mean (fun i => (y i - mean y ⟨i.val / 64, by omega⟩) * (y i - mean y ⟨i.val / 64, by omega⟩)) q = var y q := by
  unfold var
  conv_lhs => unfold mean
  congr 1
  refine Finset.sum_congr rfl fun x _ => ?_
  have e : (⟨(q.val * 64 + x.val) / 64, by omega⟩ : Fin 8) = q := Fin.ext (by show (q.val * 64 + x.val) / 64 = q.val; omega)
  have f : ∀ p : Fin 8, p = q → (y ⟨q.val * 64 + x.val, by omega⟩ - mean y p) * (y ⟨q.val * 64 + x.val, by omega⟩ - mean y p)
      = (y ⟨q.val * 64 + x.val, by omega⟩ - mean y q) * (y ⟨q.val * 64 + x.val, by omega⟩ - mean y q) := by
    rintro p rfl
    rfl
  exact f _ e

/-- The variance by the table, of the squares of a row of reals less their means, split into a high and a low part. -/
theorem split_var (y : Fin 512 → ℝ) (j : Fin 512) (d : Fin 512 → EReal) (hd : ∀ k, d k = (y k : EReal) - mean (fun k => (y k : EReal)) ⟨k.val / 64, by omega⟩) :
    ∑ k, (d k * d k) * table k j + ∑ k, ((d k * d k) - (d k * d k)) * table k j = var (fun k => (y k : EReal)) ⟨j.val / 64, by omega⟩ := by
  rw [← var_eq]
  have e : ∀ k, d k * d k = (((y k - (∑ x : Fin 64, y ⟨k.val / 64 * 64 + x.val, by omega⟩) / 64) * (y k - (∑ x : Fin 64, y ⟨k.val / 64 * 64 + x.val, by omega⟩) / 64) : ℝ) : EReal) :=
    fun k => by rw [hd, mean_coe, ← EReal.coe_sub, ← EReal.coe_mul]
  have e' : (fun i : Fin 512 => ((y i : EReal) - mean (fun k => (y k : EReal)) ⟨i.val / 64, by omega⟩) * ((y i : EReal) - mean (fun k => (y k : EReal)) ⟨i.val / 64, by omega⟩))
      = fun i => (((y i - (∑ x : Fin 64, y ⟨i.val / 64 * 64 + x.val, by omega⟩) / 64) * (y i - (∑ x : Fin 64, y ⟨i.val / 64 * 64 + x.val, by omega⟩) / 64) : ℝ) : EReal) :=
    funext fun k => by rw [← hd, e]
  rw [e']
  simp only [e]
  exact split_table _ j

/-! ## The arguments -/

/-- What the output projection takes, of the two sequences. -/
structure Args where
  h : Fin 2 → Fin 16400 → Fin 1024 → EReal
  o : Fin 2 → Fin 16400 → Fin 512 → EReal
  gf : Fin 2 → Fin 16400 → Fin 512 → EReal
  gb : Fin 2 → Fin 16400 → Fin 512 → EReal
  zg : Fin 2 → Fin 16400 → Fin 1568 → EReal
  yf : Fin 2 → Fin 16400 → Fin 512 → EReal
  yb : Fin 2 → Fin 16400 → Fin 512 → EReal
  bonus : Fin 2 → Fin 16400 → Fin 512 → EReal
  zr : Fin 2 → Fin 16400 → Fin 2304 → EReal
  w : Fin 1536 → Fin 1024 → EReal
  gn : Fin 128 → EReal
  lg : Fin 512 → EReal
  lb : Fin 512 → EReal
  fin : Fin 1024 → EReal

/-- Row `s` of sequence `b`. -/
def Args.out (A : Args) (b : Fin 2) (s : Fin 16400) : Fin 1024 → EReal :=
  row (A.h b s) (A.o b s) (fun k => A.gf b s k + A.gb b s k) (fun k => A.zg b s ⟨1024 + k.val, by omega⟩) (fun k => A.yf b s k + A.yb b s k)
    (A.bonus b s) (fun k => A.zr b s ⟨1792 + k.val, by omega⟩) A.w A.gn A.lg A.lb A.fin

end Cert.Mix
end
-- ==== Proof.MixKernel.lean ====
/-
  The output projection's kernel: its result's entries, tile by tile, with the head means of the third mixer taken by the table.
-/
module

public import proofs.«01_k».proof.Proof.Mix
public import proofs.«01_k».proof.Proof.Gen.OutProjIdeal.Value
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.OutProjIdeal.Mix

open Idealize.ShloMosaic Idealize.ShloMosaic.TcCoe Idealize.SL.Sem Cert.Mix
open Cert.OutProjIdeal Cert.OutProjIdeal.Gen

/-! ## One tile -/

theorem glaTile (gf gb gg : Vec Ideal S1x512x512 .f32) (gn : Vec Ideal S1x128 .f32) (r k : Fin 512) :
    k0_pay7 (k0_pay1 gf gb) (k0_pay2 gf gb gn) (k0_pay3 gf gb gn) (k0_pay4 gf gb) (k0_pay5 gf gb) k0_pay6 gn gn gg (ix2 r k)
      = gla (fun k => HAdd.hAdd (α := EReal) (gf (ix3 0 r k)) (gb (ix3 0 r k))) (fun k => gg (ix3 0 r k)) (fun l => gn (ix2 0 l)) k := by
  generalize ha : (fun k => HAdd.hAdd (α := EReal) (gf (ix3 0 r k)) (gb (ix3 0 r k))) = a
  have e : ∀ i, HAdd.hAdd (α := EReal) (gf (ix3 0 r i)) (gb (ix3 0 r i)) = a i := congrFun ha
  generalize hQ : gla a (fun k => gg (ix3 0 r k)) (fun l => gn (ix2 0 l)) k = Q
  pointwise [k0_pay7, k0_pay1, k0_pay2, k0_pay3, k0_pay4, k0_pay5, k0_pay6]
  simp only [e, zero_sub]
  have key : ∀ (p : ℕ) (i : Fin 512) (l : Fin 128) (hp : p + 128 ≤ 512), k.val = p + l.val → p % 128 = 0 → i = k →
      a i * Ideal.rsqrt (Ideal.div (∑ x : Fin 128, a ⟨p + x.val, by omega⟩ * a ⟨p + x.val, by omega⟩)
        (Ideal.ofBits .f32 0x43000000#32) + Ideal.ofBits .f32 0x3727C5AC#32) * gn (ix2 0 l) * silu (gg (ix3 0 r k)) = Q := by
    rintro p i l hp hk hm rfl
    rw [← hQ]
    have e1 : i.val / 128 * 128 = p := by omega
    have e2 : (⟨i.val % 128, by omega⟩ : Fin 128) = l := Fin.ext (by show i.val % 128 = l.val; omega)
    simp only [gla, e1, e2]
  by_cases h0 : k.val < 128
  · rw [dif_pos h0]
    have := key 0 k ⟨k.val, h0⟩ (by omega) (by simp only; omega) rfl rfl
    simp only [zero_add] at this
    exact this
  · rw [dif_neg h0]
    by_cases h1 : k.val - 128 < 128
    · rw [dif_pos h1]
      exact key 128 _ ⟨k.val - 128, h1⟩ (by omega) (by simp only; omega) rfl (Fin.ext (by simp only; omega))
    · rw [dif_neg h1]
      by_cases h2 : k.val - 128 - 128 < 128
      · rw [dif_pos h2]
        exact key 256 _ ⟨k.val - 128 - 128, h2⟩ (by omega) (by simp only; omega) rfl (Fin.ext (by simp only; omega))
      · rw [dif_neg h2]
        exact key 384 _ ⟨k.val - 128 - 128 - 128, by omega⟩ (by omega) (by simp only; omega) rfl (Fin.ext (by simp only; omega))

theorem rwTile (yf yb bo : Vec Ideal S1x512x512 .f32) (T : Vec Ideal S512x512 .bf16) (lg lb : Vec Ideal S1x512 .f32) (r k : Fin 512)
    (hT : ∀ a b : Fin 512, T (ix2 a b) = table a b) (y : Fin 512 → ℝ) (hy : ∀ k, HAdd.hAdd (α := EReal) (yf (ix3 0 r k)) (yb (ix3 0 r k)) = (y k : EReal)) (gate : Fin 512 → EReal) :
    HMul.hMul (α := EReal) (k0_pay9 (k0_pay8 yf) yb T T lg lb bo (ix2 r k)) (silu (gate k))
      = rw7 (fun k => HAdd.hAdd (α := EReal) (yf (ix3 0 r k)) (yb (ix3 0 r k))) (fun k => bo (ix3 0 r k)) gate (fun k => lg (ix2 0 k)) (fun k => lb (ix2 0 k)) k := by
  unfold rw7
  congr 1
  pointwise [k0_pay8, k0_pay9]
  simp only [hy, hT, split_table]
  rw [split_var y k (fun x => (y x : EReal) - mean (fun k => (y k : EReal)) ⟨x.val / 64, by omega⟩) fun _ => rfl]

theorem outTile (v76 v116 v118 : FVec Ideal S512x512 .f32) (o : Vec Ideal S1x512x512 .f32) (h : Vec Ideal S1x512x1024 .f32) (w : Vec Ideal S1536x1024 .bf16)
    (fin : Vec Ideal S1x1024 .f32) (r : Fin 512) (j : Fin 1024) :
    k0_pay12 v76 v116 v118 k0_pay11 o h w fin (ix3 0 r j)
      = final (resid (fun k => h (ix3 0 r k)) (cat (fun k => o (ix3 0 r k)) (fun k => v76 (ix2 r k))
          (fun k => HMul.hMul (α := EReal) (v116 (ix2 r k)) (silu (v118 (ix2 r k))))) fun k j => w (ix2 k j)) (fun j => fin (ix2 0 j)) j := by
  generalize hQ : final _ _ j = Q
  pointwise [k0_pay12, k0_pay11]
  simp only [zero_sub]
  refine Eq.trans ?_ hQ
  simp only [final, resid, cat, silu]

/-! ## What the launch reads -/

variable (m : (ℓ : Loc nD τ sig) → Buf (Elt Ideal) ℓ) (c : Dev nD)

/-- The arguments as functions. -/
def args : Args where
  h b s k := m ((c : Thread nD τ).loc main_arg0) (ix3 b s k)
  o b s k := m ((c : Thread nD τ).loc main_arg1) (ix3 b s k)
  gf b s k := m ((c : Thread nD τ).loc main_arg2) (ix3 b s k)
  gb b s k := m ((c : Thread nD τ).loc main_arg3) (ix3 b s k)
  zg b s k := m ((c : Thread nD τ).loc main_arg4) (ix3 b s k)
  yf b s k := m ((c : Thread nD τ).loc main_arg5) (ix3 b s k)
  yb b s k := m ((c : Thread nD τ).loc main_arg6) (ix3 b s k)
  bonus b s k := m ((c : Thread nD τ).loc main_arg7) (ix3 b s k)
  zr b s k := m ((c : Thread nD τ).loc main_arg8) (ix3 b s k)
  w k j := m ((c : Thread nD τ).loc main_arg9) (ix2 k j)
  gn l := m ((c : Thread nD τ).loc main_arg10) (ix1 l)
  lg k := m ((c : Thread nD τ).loc main_arg11) (ix1 k)
  lb k := m ((c : Thread nD τ).loc main_arg12) (ix1 k)
  fin j := m ((c : Thread nD τ).loc main_arg13) (ix1 j)

section Rows

variable (b : Fin 2) (R : Fin 16896) (h : 496 ≤ R.val)
include h

theorem entry_h (k : Fin 1024) : V m c main_v17 (ix3 b R k) = (args m c).h b ⟨R.val - 496, by omega⟩ k := by
  unfold V args
  after_reads_at
  rw [dif_neg (by omega)]

theorem entry_o (k : Fin 512) : V m c main_v19 (ix3 b R k) = (args m c).o b ⟨R.val - 496, by omega⟩ k := by
  unfold V args
  after_reads_at
  rw [dif_neg (by omega)]

theorem entry_gf (k : Fin 512) : V m c main_v21 (ix3 b R k) = (args m c).gf b ⟨R.val - 496, by omega⟩ k := by
  unfold V args
  after_reads_at
  rw [dif_neg (by omega)]

theorem entry_gb (k : Fin 512) : V m c main_v23 (ix3 b R k) = (args m c).gb b ⟨R.val - 496, by omega⟩ k := by
  unfold V args
  after_reads_at
  rw [dif_neg (by omega)]

theorem entry_yf (k : Fin 512) : V m c main_v27 (ix3 b R k) = (args m c).yf b ⟨R.val - 496, by omega⟩ k := by
  unfold V args
  after_reads_at
  rw [dif_neg (by omega)]

theorem entry_yb (k : Fin 512) : V m c main_v29 (ix3 b R k) = (args m c).yb b ⟨R.val - 496, by omega⟩ k := by
  unfold V args
  after_reads_at
  rw [dif_neg (by omega)]

theorem entry_bonus (k : Fin 512) : V m c main_v31 (ix3 b R k) = (args m c).bonus b ⟨R.val - 496, by omega⟩ k := by
  unfold V args
  after_reads_at
  rw [dif_neg (by omega)]

theorem entry_zg (k : Fin 512) : V m c main_v25 (ix3 b R ⟨1024 + k.val, by omega⟩) = (args m c).zg b ⟨R.val - 496, by omega⟩ ⟨1024 + k.val, by omega⟩ := by
  unfold V args
  after_reads_at
  rw [dif_neg (by omega)]
  exact dif_pos ⟨by omega, by omega⟩

theorem entry_zr (k : Fin 512) : V m c main_v33 (ix3 b R ⟨1536 + k.val, by omega⟩) = (args m c).zr b ⟨R.val - 496, by omega⟩ ⟨1792 + k.val, by omega⟩ := by
  unfold V args
  after_reads_at
  rw [dif_neg (by omega)]
  after_reads_at

end Rows

theorem entry_w (k : Fin 1536) (j : Fin 1024) : V m c main_v34 (ix2 k j) = (args m c).w k j := by
  unfold V args
  after_reads_at

theorem entry_gn (k : Fin 128) : V m c main_v35 (ix2 0 k) = (args m c).gn k := by
  unfold V args
  after_reads_at

theorem entry_lg (k : Fin 512) : V m c main_v36 (ix2 0 k) = (args m c).lg k := by
  unfold V args
  after_reads_at

theorem entry_lb (k : Fin 512) : V m c main_v37 (ix2 0 k) = (args m c).lb k := by
  unfold V args
  after_reads_at

theorem entry_fin (k : Fin 1024) : V m c main_v38 (ix2 0 k) = (args m c).fin k := by
  unfold V args
  after_reads_at

theorem entry_table (a b : Fin 512) : V m c main_v15 (ix2 a b) = table a b := by
  unfold V
  after_reads_at
  rw [ofBits_sixtyfourth]
  have e : IntOp.cmpi CmpIPredicate.eq (BitVec.ofNat 32 (a.val / 64)) (BitVec.ofNat 32 (b.val / 64)) = if a.val / 64 = b.val / 64 then 1#1 else 0#1 :=
    (by decide +kernel : ∀ p q : Fin 8, IntOp.cmpi CmpIPredicate.eq (BitVec.ofNat 32 p.val) (BitVec.ofNat 32 q.val) = if p.val = q.val then 1#1 else 0#1)
      ⟨a.val / 64, by omega⟩ ⟨b.val / 64, by omega⟩
  unfold table
  rw [e]
  by_cases h : a.val / 64 = b.val / 64
  · rw [if_pos h, if_pos h]
    exact (congrArg (· * ((1 / 64 : ℝ) : EReal)) (by simp [FloatOps.uitofp] : FloatOps.uitofp (F := Ideal) FTy.f32 1#1 = (1 : EReal))).trans (one_mul _)
  · rw [if_neg h, if_neg h]
    exact (congrArg (· * ((1 / 64 : ℝ) : EReal)) (by simp [FloatOps.uitofp] : FloatOps.uitofp (F := Ideal) FTy.f32 0#1 = (0 : EReal))).trans (zero_mul _)

/-! ## The windows' blocks at a grid point -/

theorem lt_points (t : Fin cfg0.N) : t.val < 64 := t.isLt

/-- The sequence of a grid point, and the padded row and the row of its tile's rows. -/
def seqOf (t : Fin cfg0.N) : Fin 2 := ⟨t.val / 32, by have := lt_points t; omega⟩
def padRow (t : Fin cfg0.N) (r : Fin 512) : Fin 16896 := ⟨512 * (t.val % 32 + 1) + r.val, by omega⟩
def rowOf (t : Fin cfg0.N) (r : Fin 512) : Fin 16400 := ⟨16 + (512 * (t.val % 32) + r.val), by omega⟩

theorem padRow_le (t : Fin cfg0.N) (r : Fin 512) : 496 ≤ (padRow t r).val := by unfold padRow; simp only; omega
theorem padRow_row (t : Fin cfg0.N) (r : Fin 512) (h : (padRow t r).val - 496 < 16400) : (⟨(padRow t r).val - 496, h⟩ : Fin 16400) = rowOf t r :=
  Fin.ext (by unfold padRow rowOf; simp only; omega)

theorem index_h : ∀ t : Fin cfg0.N, win0_0.index t = ![t.val / 32, t.val % 32 + 1, 0] := by decide +kernel
theorem index_o : ∀ t : Fin cfg0.N, win0_1.index t = ![t.val / 32, t.val % 32 + 1, 0] := by decide +kernel
theorem index_gf : ∀ t : Fin cfg0.N, win0_2.index t = ![t.val / 32, t.val % 32 + 1, 0] := by decide +kernel
theorem index_gb : ∀ t : Fin cfg0.N, win0_3.index t = ![t.val / 32, t.val % 32 + 1, 0] := by decide +kernel
theorem index_zg : ∀ t : Fin cfg0.N, win0_4.index t = ![t.val / 32, t.val % 32 + 1, 2] := by decide +kernel
theorem index_yf : ∀ t : Fin cfg0.N, win0_5.index t = ![t.val / 32, t.val % 32 + 1, 0] := by decide +kernel
theorem index_yb : ∀ t : Fin cfg0.N, win0_6.index t = ![t.val / 32, t.val % 32 + 1, 0] := by decide +kernel
theorem index_bonus : ∀ t : Fin cfg0.N, win0_7.index t = ![t.val / 32, t.val % 32 + 1, 0] := by decide +kernel
theorem index_zr : ∀ t : Fin cfg0.N, win0_8.index t = ![t.val / 32, t.val % 32 + 1, 3] := by decide +kernel
theorem index_w : ∀ t : Fin cfg0.N, win0_9.index t = ![0, 0] := by decide +kernel
theorem index_gn : ∀ t : Fin cfg0.N, win0_10.index t = ![0, 0] := by decide +kernel
theorem index_table : ∀ t : Fin cfg0.N, win0_11.index t = ![0, 0] := by decide +kernel
theorem index_lg : ∀ t : Fin cfg0.N, win0_12.index t = ![0, 0] := by decide +kernel
theorem index_lb : ∀ t : Fin cfg0.N, win0_13.index t = ![0, 0] := by decide +kernel
theorem index_fin : ∀ t : Fin cfg0.N, win0_14.index t = ![0, 0] := by decide +kernel
theorem index_out : ∀ t : Fin cfg0.N, win0_15.index t = ![t.val / 32, t.val % 32, 0] := by decide +kernel

theorem blk_h (t : Fin cfg0.N) (r : Fin 512) (k : Fin 1024) : iblk m c 0 t (ix3 0 r k) = (args m c).h (seqOf t) (rowOf t r) k := by
  refine (congrArg (V m c main_v17) (?_ : _ = ix3 (seqOf t) (padRow t r) k)).trans
    ((entry_h m c _ _ (padRow_le t r) k).trans (congrArg (fun s => (args m c).h (seqOf t) s k) (padRow_row t r _)))
  refine funext fun a => Fin.ext ?_
  blk_simp [index_h, seqOf, padRow]
  fin_cases a <;> simp <;> omega

theorem blk_o (t : Fin cfg0.N) (r : Fin 512) (k : Fin 512) : iblk m c 1 t (ix3 0 r k) = (args m c).o (seqOf t) (rowOf t r) k := by
  refine (congrArg (V m c main_v19) (?_ : _ = ix3 (seqOf t) (padRow t r) k)).trans
    ((entry_o m c _ _ (padRow_le t r) k).trans (congrArg (fun s => (args m c).o (seqOf t) s k) (padRow_row t r _)))
  refine funext fun a => Fin.ext ?_
  blk_simp [index_o, seqOf, padRow]
  fin_cases a <;> simp <;> omega

theorem blk_gf (t : Fin cfg0.N) (r : Fin 512) (k : Fin 512) : iblk m c 2 t (ix3 0 r k) = (args m c).gf (seqOf t) (rowOf t r) k := by
  refine (congrArg (V m c main_v21) (?_ : _ = ix3 (seqOf t) (padRow t r) k)).trans
    ((entry_gf m c _ _ (padRow_le t r) k).trans (congrArg (fun s => (args m c).gf (seqOf t) s k) (padRow_row t r _)))
  refine funext fun a => Fin.ext ?_
  blk_simp [index_gf, seqOf, padRow]
  fin_cases a <;> simp <;> omega

theorem blk_gb (t : Fin cfg0.N) (r : Fin 512) (k : Fin 512) : iblk m c 3 t (ix3 0 r k) = (args m c).gb (seqOf t) (rowOf t r) k := by
  refine (congrArg (V m c main_v23) (?_ : _ = ix3 (seqOf t) (padRow t r) k)).trans
    ((entry_gb m c _ _ (padRow_le t r) k).trans (congrArg (fun s => (args m c).gb (seqOf t) s k) (padRow_row t r _)))
  refine funext fun a => Fin.ext ?_
  blk_simp [index_gb, seqOf, padRow]
  fin_cases a <;> simp <;> omega

theorem blk_yf (t : Fin cfg0.N) (r : Fin 512) (k : Fin 512) : iblk m c 5 t (ix3 0 r k) = (args m c).yf (seqOf t) (rowOf t r) k := by
  refine (congrArg (V m c main_v27) (?_ : _ = ix3 (seqOf t) (padRow t r) k)).trans
    ((entry_yf m c _ _ (padRow_le t r) k).trans (congrArg (fun s => (args m c).yf (seqOf t) s k) (padRow_row t r _)))
  refine funext fun a => Fin.ext ?_
  blk_simp [index_yf, seqOf, padRow]
  fin_cases a <;> simp <;> omega

theorem blk_yb (t : Fin cfg0.N) (r : Fin 512) (k : Fin 512) : iblk m c 6 t (ix3 0 r k) = (args m c).yb (seqOf t) (rowOf t r) k := by
  refine (congrArg (V m c main_v29) (?_ : _ = ix3 (seqOf t) (padRow t r) k)).trans
    ((entry_yb m c _ _ (padRow_le t r) k).trans (congrArg (fun s => (args m c).yb (seqOf t) s k) (padRow_row t r _)))
  refine funext fun a => Fin.ext ?_
  blk_simp [index_yb, seqOf, padRow]
  fin_cases a <;> simp <;> omega

theorem blk_bonus (t : Fin cfg0.N) (r : Fin 512) (k : Fin 512) : iblk m c 7 t (ix3 0 r k) = (args m c).bonus (seqOf t) (rowOf t r) k := by
  refine (congrArg (V m c main_v31) (?_ : _ = ix3 (seqOf t) (padRow t r) k)).trans
    ((entry_bonus m c _ _ (padRow_le t r) k).trans (congrArg (fun s => (args m c).bonus (seqOf t) s k) (padRow_row t r _)))
  refine funext fun a => Fin.ext ?_
  blk_simp [index_bonus, seqOf, padRow]
  fin_cases a <;> simp <;> omega

theorem blk_zg (t : Fin cfg0.N) (r : Fin 512) (k : Fin 512) : X0_4 m c t (ix3 0 r k) = (args m c).zg (seqOf t) (rowOf t r) ⟨1024 + k.val, by omega⟩ := by
  unfold X0_4 Pipeline.Window.fill
  rw [dif_pos (moved0_4 t _)]
  refine (congrArg (V m c main_v25) (?_ : _ = ix3 (seqOf t) (padRow t r) ⟨1024 + k.val, by omega⟩)).trans
    ((entry_zg m c _ _ (padRow_le t r) k).trans (congrArg (fun s => (args m c).zg (seqOf t) s _) (padRow_row t r _)))
  refine funext fun a => Fin.ext ?_
  blk_simp [index_zg, seqOf, padRow]
  fin_cases a <;> simp <;> omega

theorem blk_zr (t : Fin cfg0.N) (r : Fin 512) (k : Fin 512) : X0_8 m c t (ix3 0 r k) = (args m c).zr (seqOf t) (rowOf t r) ⟨1792 + k.val, by omega⟩ := by
  unfold X0_8 Pipeline.Window.fill
  rw [dif_pos (moved0_8 t _)]
  refine (congrArg (V m c main_v33) (?_ : _ = ix3 (seqOf t) (padRow t r) ⟨1536 + k.val, by omega⟩)).trans
    ((entry_zr m c _ _ (padRow_le t r) k).trans (congrArg (fun s => (args m c).zr (seqOf t) s _) (padRow_row t r _)))
  refine funext fun a => Fin.ext ?_
  blk_simp [index_zr, seqOf, padRow]
  fin_cases a <;> simp <;> omega

theorem blk_w (t : Fin cfg0.N) (k : Fin 1536) (j : Fin 1024) : iblk m c 9 t (ix2 k j) = (args m c).w k j := by
  refine Eq.trans (congrArg (V m c main_v34) (?_ : _ = ix2 k j)) (entry_w m c k j)
  refine funext fun a => Fin.ext ?_
  blk_simp [index_w]
  fin_cases a <;> simp

theorem blk_gn (t : Fin cfg0.N) (k : Fin 128) : iblk m c 10 t (ix2 0 k) = (args m c).gn k := by
  refine Eq.trans (congrArg (V m c main_v35) (?_ : _ = ix2 0 k)) (entry_gn m c k)
  refine funext fun a => Fin.ext ?_
  blk_simp [index_gn]
  fin_cases a <;> simp

theorem blk_table (t : Fin cfg0.N) (k : Fin 512) (j : Fin 512) : iblk m c 11 t (ix2 k j) = table k j := by
  refine Eq.trans (congrArg (V m c main_v15) (?_ : _ = ix2 k j)) (entry_table m c k j)
  refine funext fun a => Fin.ext ?_
  blk_simp [index_table]
  fin_cases a <;> simp

theorem blk_lg (t : Fin cfg0.N) (k : Fin 512) : iblk m c 12 t (ix2 0 k) = (args m c).lg k := by
  refine Eq.trans (congrArg (V m c main_v36) (?_ : _ = ix2 0 k)) (entry_lg m c k)
  refine funext fun a => Fin.ext ?_
  blk_simp [index_lg]
  fin_cases a <;> simp

theorem blk_lb (t : Fin cfg0.N) (k : Fin 512) : iblk m c 13 t (ix2 0 k) = (args m c).lb k := by
  refine Eq.trans (congrArg (V m c main_v37) (?_ : _ = ix2 0 k)) (entry_lb m c k)
  refine funext fun a => Fin.ext ?_
  blk_simp [index_lb]
  fin_cases a <;> simp

theorem blk_fin (t : Fin cfg0.N) (k : Fin 1024) : iblk m c 14 t (ix2 0 k) = (args m c).fin k := by
  refine Eq.trans (congrArg (V m c main_v38) (?_ : _ = ix2 0 k)) (entry_fin m c k)
  refine funext fun a => Fin.ext ?_
  blk_simp [index_fin]
  fin_cases a <;> simp

/-! ## The array -/

/-- The result: every token's row after the leading sixteen. -/
def outArr : Vec Ideal S2x16384x1024 .f32 := fun y => (args m c).out (y 0) ⟨16 + (y 1).val, by have : (y 1).val < 16384 := (y 1).isLt; omega⟩ (y 2)

theorem emb_out (t : Fin cfg0.N) (r : Fin 512) (j : Fin 1024) :
    (win0_15.blk t).view.emb (ix3 0 r j) = ix3 (seqOf t) (⟨512 * (t.val % 32) + r.val, by omega⟩ : Fin 16384) j := by
  refine funext fun a => Fin.ext ?_
  blk_simp [index_out, seqOf]
  fin_cases a <;> simp <;> omega

variable (hy : ∀ b s k, ∃ y : ℝ, HAdd.hAdd (α := EReal) ((args m c).yf b s k) ((args m c).yb b s k) = (y : EReal))
include hy

theorem out_at (t : Fin cfg0.N) (r : Fin 512) (j : Fin 1024) : outsAt0 m c t (ix3 0 r j) = (args m c).out (seqOf t) (rowOf t r) j := by
  choose y hy using hy (seqOf t) (rowOf t r)
  unfold outsAt0
  frame_out
  have e1 := fun k => glaTile (iblk m c 2 t) (iblk m c 3 t) (X0_4 m c t) (iblk m c 10 t) r k
  have e2 := fun k => rwTile (iblk m c 5 t) (iblk m c 6 t) (iblk m c 7 t) (iblk m c 11 t) (iblk m c 12 t) (iblk m c 13 t) r k
    (fun a b => blk_table m c t a b) y (fun k => by rw [blk_yf, blk_yb]; exact hy k) (fun k => k0_pay10 (X0_8 m c t) (ix2 r k))
  have e3 : ∀ k, k0_pay10 (X0_8 m c t) (ix2 r k) = X0_8 m c t (ix3 0 r k) := fun k => by pointwise [k0_pay10]
  refine (outTile _ _ _ _ _ _ _ r j).trans ?_
  simp only [e1, e2]
  simp only [e3, blk_h, blk_o, blk_gf, blk_gb, blk_zg, blk_yf, blk_yb, blk_bonus, blk_zr, blk_w, blk_gn, blk_lg, blk_lb, blk_fin]
  rfl

theorem result : (dats m 0 c).arrAt 15 cfg0.N = outArr m c := by
  refine (dats m 0 c).arrAt_eq_of_covers 15 _ (by decide +kernel) fun t hf y => ?_
  blk_simp
  rw [after0_15]
  obtain ⟨r, j, rfl⟩ : ∃ (r : Fin 512) (j : Fin 1024), y = ix3 0 r j := ⟨y 1, y 2, funext fun a => by
    fin_cases a
    · exact Fin.ext (by have : (y 0).val < 1 := (y 0).isLt; show (y 0).val = 0; omega)
    · rfl
    · rfl⟩
  refine Eq.trans ?_ (congrArg (outArr m c) (emb_out t r j)).symm
  exact out_at m c hy t r j

end Cert.OutProjIdeal.Mix
end
-- ==== Proof.MixRef.lean ====
/-
  The reference's array of the output projection, entry by entry.
-/
module

public import proofs.«01_k».proof.Proof.Mix
public import proofs.«01_k».proof.Proof.Gen.OutProjRefIdeal.Run
public import Idealize.ShloMosaic.Lib.StableHlo.ReadAt
public import Idealize.ShloMosaic.Lib.ValueIdx

@[expose] public section

set_option maxRecDepth 16384

noncomputable section

namespace Cert.OutProjRefIdeal.Mix

open Idealize.ShloMosaic Idealize.ShloMosaic.TcCoe Idealize.SL.Sem Cert.Mix
open Cert.OutProjRefIdeal Cert.OutProjRefIdeal.Gen

variable (m : (ℓ : Loc nD τ sig) → Buf (Elt Ideal) ℓ) (c : Dev nD)

/-- The arguments as functions. -/
def args : Args where
  h b s k := m ((c : Thread nD τ).loc main_arg0) (ix3 b s k)
  o b s k := m ((c : Thread nD τ).loc main_arg1) (ix3 b s k)
  gf b s k := m ((c : Thread nD τ).loc main_arg2) (ix3 b s k)
  gb b s k := m ((c : Thread nD τ).loc main_arg3) (ix3 b s k)
  zg b s k := m ((c : Thread nD τ).loc main_arg4) (ix3 b s k)
  yf b s k := m ((c : Thread nD τ).loc main_arg5) (ix3 b s k)
  yb b s k := m ((c : Thread nD τ).loc main_arg6) (ix3 b s k)
  bonus b s k := m ((c : Thread nD τ).loc main_arg7) (ix3 b s k)
  zr b s k := m ((c : Thread nD τ).loc main_arg8) (ix3 b s k)
  w k j := m ((c : Thread nD τ).loc main_arg9) (ix2 k j)
  gn l := m ((c : Thread nD τ).loc main_arg10) (ix1 l)
  lg k := m ((c : Thread nD τ).loc main_arg11) (ix1 k)
  lb k := m ((c : Thread nD τ).loc main_arg12) (ix1 k)
  fin j := m ((c : Thread nD τ).loc main_arg13) (ix1 j)

set_option maxHeartbeats 1000000 in
theorem res_at (b : Fin 2) (t : Fin 16384) (j : Fin 1024) :
    Value.res_out0 m c (ix3 b t j) = (args m c).out b ⟨16 + t.val, by omega⟩ j := by
  generalize hQ : (args m c).out b ⟨16 + t.val, by omega⟩ j = Q
  pointwise [Value.res_out0, Value.res_main_v66]
  simp only [Nat.div_add_mod']
  refine Eq.trans ?_ hQ
  simp only [Args.out, row, final, resid, cat, gla, rw7, mean, var, silu, args]

end Cert.OutProjRefIdeal.Mix
end
-- ==== Proof.lean ====
/-
  The certificate: the programs' frames from their runs, and each call's results as one array, of the kernel and of its reference.
-/
module

public import proofs.«01_k».proof.Proof.Result
public import proofs.«01_k».proof.Proof.RefOut
public import proofs.«01_k».proof.Proof.ProjKernel
public import proofs.«01_k».proof.Proof.ProjRef
public import proofs.«01_k».proof.Proof.MixKernel
public import proofs.«01_k».proof.Proof.MixRef
public import proofs.«01_k».proof.Defs
public import proofs.«01_k».proof.Proof.Gen.Kernel.Frame
public import proofs.«01_k».proof.Proof.Gen.KernelIdeal.Frame
public import proofs.«01_k».proof.Proof.Gen.InProj.Frame
public import proofs.«01_k».proof.Proof.Gen.InProjIdeal.Frame
public import proofs.«01_k».proof.Proof.Gen.InProjIdeal.Value
public import proofs.«01_k».proof.Proof.Gen.InProjRefIdeal.Run
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjRefIdeal.Run

@[expose] public section

set_option maxRecDepth 16384

noncomputable section

namespace Cert.Proof

open Idealize.ShloMosaic Idealize.ShloMosaic.TcCoe Idealize.SL.Sem Cert.Gla

theorem pre_facts : Cert.Pre_finite_inputs.Facts := ⟨by decide, by decide, by decide⟩

theorem scan_facts : Cert.Pre_finite_scan.Facts := ⟨by decide⟩

/-- An extended real whose absolute value is below infinity is a real number. -/
theorem real_of_lt {x : EReal} (h : FloatOps.cmpf (F := Ideal) (φ := .f32) .olt (FloatOps.absf (F := Ideal) (φ := .f32) x) (Ideal.ofBits .f32 0x7F800000#32) = 1#1) :
    ((x.toReal : ℝ) : EReal) = x := by
  have htop : Ideal.ofBits .f32 0x7F800000#32 = ⊤ := by simp [Ideal.ofBits, Ideal.ieee]
  have h' : BitVec.ofBool (decide (max x (-x) < Ideal.ofBits .f32 0x7F800000#32)) = 1#1 := h
  rw [htop] at h'
  have hlt : max x (-x) < ⊤ := by
    by_contra hn
    simp [hn] at h'
  obtain ⟨h1, h2⟩ := max_lt_iff.mp hlt
  refine EReal.coe_toReal (ne_of_lt h1) fun hb => ?_
  rw [hb] at h2
  exact absurd h2 (by simp)

/-- The real numbers that finite arguments hold. -/
theorem reals (m : (ℓ : Loc Cert.KernelIdeal.nD Cert.KernelIdeal.τ Cert.KernelIdeal.sig) → Buf (Elt Ideal) ℓ) (hP : Cert.Pre_KernelIdeal_finite_inputs (hPre_finite_inputs := pre_facts) m)
    (c : Dev Cert.KernelIdeal.nD) : ∃ A : Args, Cert.KernelIdeal.Gla.Reals m c A := by
  obtain ⟨h0, h1, h2⟩ := hP c
  refine ⟨⟨fun b s l => EReal.toReal (m ((c.tc : Thread Cert.KernelIdeal.nD Cert.KernelIdeal.τ).loc Cert.KernelIdeal.main_arg0) (ix3 b s l)), fun d x l => EReal.toReal (m ((c.tc : Thread Cert.KernelIdeal.nD Cert.KernelIdeal.τ).loc Cert.KernelIdeal.main_arg1) (ix3 d x l)),
    fun d l => EReal.toReal (m ((c.tc : Thread Cert.KernelIdeal.nD Cert.KernelIdeal.τ).loc Cert.KernelIdeal.main_arg2) (ix2 d l))⟩, fun b s l => ?_, fun d x l => ?_, fun d l => ?_⟩
  · exact (real_of_lt (congrFun h0 (ix3 b s l))).symm
  · exact (real_of_lt (congrFun h1 (ix3 d x l))).symm
  · exact (real_of_lt (congrFun h2 (ix2 d l))).symm

/-- The gated linear attention's two results, of the kernel and of the reference. -/
theorem attention : Cert.algebraic_KernelIdeal_ReferenceIdeal_pre_finite_inputs (hKernelIdeal := Cert.KernelIdeal.Gen.facts)
    (hReferenceIdeal := Cert.ReferenceIdeal.Gen.facts) (hPre_finite_inputs := pre_facts) := fun m ρ m' ρ' hP hagree => by
  choose A hA using reals m hP
  have hA' : ∀ c, Cert.ReferenceIdeal.Gla.Reals (StableHlo.launchContents m' c) (A c) := fun c => by
    obtain ⟨e0, e1, e2⟩ := hagree c
    exact ⟨fun b s l => (congrFun e0 _).trans ((hA c).z b s l), fun d x l => (congrFun e1 _).trans ((hA c).u d x l), fun d l => (congrFun e2 _).trans ((hA c).b d l)⟩
  refine ⟨fun c => Cert.KernelIdeal.Gla.resultArr (A c) 0, fun c => Cert.KernelIdeal.Gla.resultArr (A c) 1,
    (θ_run _ _ _).mono (fun _ h c => ?_) (Cert.KernelIdeal.Value.run_blocks m ρ), (θ_run _ _ _).mono (fun _ h c => ?_) (Cert.ReferenceIdeal.Value.run m' ρ')⟩
  · obtain ⟨r0, r1, k⟩ := h c
    exact ⟨r0.trans (Cert.KernelIdeal.Gla.arr_fwd (hA c)), r1.trans (Cert.KernelIdeal.Gla.arr_bwd (hA c)), k⟩
  · obtain ⟨r0, r1, k⟩ := h c
    have hS := Cert.ReferenceIdeal.Gla.scan_done m' c (hA' c)
    refine ⟨r0.trans (funext fun y => ?_), r1.trans (funext fun y => ?_), k⟩
    · rw [ValueIdx.eq_ix3 y]
      exact Cert.ReferenceIdeal.Gla.out_zero_at hS _ _ _
    · rw [ValueIdx.eq_ix3 y]
      exact Cert.ReferenceIdeal.Gla.out_one_at hS _ _ _

/-- The input projection's three results, of the kernel and of the reference. -/
theorem projection : Cert.algebraic_InProjIdeal_InProjRefIdeal (hInProjIdeal := Cert.InProjIdeal.Gen.facts)
    (hInProjRefIdeal := Cert.InProjRefIdeal.Gen.facts) := fun m ρ m' ρ' _ hagree => by
  have e : ∀ c, Cert.InProjRefIdeal.Proj.args m' c = Cert.InProjIdeal.Proj.args m c := fun c => by
    obtain ⟨e0, e1, e2⟩ := hagree c
    unfold Cert.InProjRefIdeal.Proj.args Cert.InProjIdeal.Proj.args
    congr 1
    · exact funext fun b => funext fun s => funext fun k => congrFun e0 _
    · exact funext fun k => congrFun e1 _
    · exact funext fun k => funext fun j => congrFun e2 _
  refine ⟨fun c => Cert.InProjIdeal.Proj.arrA m c, fun c => Cert.InProjIdeal.Proj.arrB m c, fun c => Cert.InProjIdeal.Proj.arrC m c,
    (θ_run _ _ _).mono (fun _ h c => ?_) (Cert.InProjIdeal.Value.run_blocks m ρ), (θ_run _ _ _).mono (fun _ h c => ?_) (Cert.InProjRefIdeal.Proj.run m' ρ')⟩
  · obtain ⟨r0, r1, r2, k⟩ := h c
    exact ⟨r0.trans (Cert.InProjIdeal.Proj.resultA m c), r1.trans (Cert.InProjIdeal.Proj.resultB m c), r2.trans (Cert.InProjIdeal.Proj.resultC m c), k⟩
  · obtain ⟨r0, r1, r2, k⟩ := h c
    rw [e c] at r0 r1 r2
    exact ⟨r0, r1, r2, k⟩

/-- The output projection's result, of the kernel and of the reference. -/
theorem output : Cert.algebraic_OutProjIdeal_OutProjRefIdeal_pre_finite_scan (hOutProjIdeal := Cert.OutProjIdeal.Gen.facts)
    (hOutProjRefIdeal := Cert.OutProjRefIdeal.Gen.facts) (hPre_finite_scan := scan_facts) := fun m ρ m' ρ' hP hagree => by
  have e : ∀ c, Cert.OutProjRefIdeal.Mix.args m' c = Cert.OutProjIdeal.Mix.args m c := fun c => by
    obtain ⟨e0, e1, e2, e3, e4, e5, e6, e7, e8, e9, e10, e11, e12, e13⟩ := hagree c
    unfold Cert.OutProjRefIdeal.Mix.args Cert.OutProjIdeal.Mix.args
    congr 1
    · exact funext fun b => funext fun s => funext fun k => congrFun e0 _
    · exact funext fun b => funext fun s => funext fun k => congrFun e1 _
    · exact funext fun b => funext fun s => funext fun k => congrFun e2 _
    · exact funext fun b => funext fun s => funext fun k => congrFun e3 _
    · exact funext fun b => funext fun s => funext fun k => congrFun e4 _
    · exact funext fun b => funext fun s => funext fun k => congrFun e5 _
    · exact funext fun b => funext fun s => funext fun k => congrFun e6 _
    · exact funext fun b => funext fun s => funext fun k => congrFun e7 _
    · exact funext fun b => funext fun s => funext fun k => congrFun e8 _
    · exact funext fun k => funext fun j => congrFun e9 _
    · exact funext fun k => congrFun e10 _
    · exact funext fun k => congrFun e11 _
    · exact funext fun k => congrFun e12 _
    · exact funext fun k => congrFun e13 _
  have hy : ∀ c b s k, ∃ y : ℝ, HAdd.hAdd (α := EReal) ((Cert.OutProjIdeal.Mix.args m c).yf b s k) ((Cert.OutProjIdeal.Mix.args m c).yb b s k) = (y : EReal) :=
    fun c b s k => by
      obtain ⟨h0, h1⟩ := hP c
      have r0 := real_of_lt (congrFun h0 (ix3 b s k))
      have r1 := real_of_lt (congrFun h1 (ix3 b s k))
      refine ⟨_ + _, ((congrArg₂ (HAdd.hAdd (α := EReal)) r0 r1).symm.trans (EReal.coe_add _ _).symm)⟩
  refine ⟨fun c => Cert.OutProjIdeal.Mix.outArr m c,
    (θ_run _ _ _).mono (fun _ h c => ?_) (Cert.OutProjIdeal.Value.run_blocks m ρ), (θ_run _ _ _).mono (fun _ h c => ?_) (Cert.OutProjRefIdeal.Value.run m' ρ')⟩
  · obtain ⟨r0, k⟩ := h c
    exact ⟨r0.trans (Cert.OutProjIdeal.Mix.result m c (hy c)), k⟩
  · obtain ⟨r0, k⟩ := h c
    refine ⟨r0.trans (funext fun y => ?_), k⟩
    rw [ValueIdx.eq_ix3 y]
    refine (Cert.OutProjRefIdeal.Mix.res_at m' c _ _ _).trans ?_
    rw [e c]
    rfl

theorem claim : Cert.Claim := ⟨Cert.Kernel.Gen.facts, Cert.KernelIdeal.Gen.facts, Cert.ReferenceIdeal.Gen.facts,
  Cert.InProj.Gen.facts, Cert.InProjIdeal.Gen.facts, Cert.InProjRefIdeal.Gen.facts,
  Cert.OutProj.Gen.facts, Cert.OutProjIdeal.Gen.facts, Cert.OutProjRefIdeal.Gen.facts, pre_facts, scan_facts,
  fun m ρ _ => Cert.Kernel.Gen.frame m ρ, fun m ρ _ => Cert.KernelIdeal.Gen.frame m ρ, fun m ρ _ => Cert.KernelIdeal.Gen.frame m ρ,
  fun m ρ _ => (θ_run Cert.ReferenceIdeal.defs _ _).mono
    (fun r h => ⟨fun c => (h c).2.2, sem_eq_zero_of_no_sems (by decide) r.2⟩) (Cert.ReferenceIdeal.Value.run (F := Ideal) m ρ),
  fun m ρ _ => (θ_run Cert.ReferenceIdeal.defs _ _).mono
    (fun r h => ⟨fun c => (h c).2.2, sem_eq_zero_of_no_sems (by decide) r.2⟩) (Cert.ReferenceIdeal.Value.run (F := Ideal) m ρ),
  fun m ρ _ => Cert.InProj.Gen.frame m ρ, fun m ρ _ => Cert.InProjIdeal.Gen.frame m ρ, fun m ρ _ => (θ_run Cert.InProjRefIdeal.defs _ _).mono
    (fun r h => ⟨fun c => (h c).2.2.2, sem_eq_zero_of_no_sems (by decide) r.2⟩) (Cert.InProjRefIdeal.Value.run (F := Ideal) m ρ),
  fun m ρ _ => Cert.OutProj.Gen.frame m ρ, fun m ρ _ => Cert.OutProjIdeal.Gen.frame m ρ, fun m ρ _ => Cert.OutProjIdeal.Gen.frame m ρ,
  fun m ρ _ => (θ_run Cert.OutProjRefIdeal.defs _ _).mono
    (fun r h => ⟨fun c => (h c).2, sem_eq_zero_of_no_sems (by decide) r.2⟩) (Cert.OutProjRefIdeal.Value.run (F := Ideal) m ρ),
  fun m ρ _ => (θ_run Cert.OutProjRefIdeal.defs _ _).mono
    (fun r h => ⟨fun c => (h c).2, sem_eq_zero_of_no_sems (by decide) r.2⟩) (Cert.OutProjRefIdeal.Value.run (F := Ideal) m ρ),
  trivial, attention, trivial, projection, trivial, output⟩

end Cert.Proof

end
